-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x7168 : Shape := ⟨3, ![8, 2048, 7168]⟩
abbrev S8x2048 : Shape := ⟨2, ![8, 2048]⟩
abbrev S10240x7168 : Shape := ⟨2, ![10240, 7168]⟩
abbrev S10240 : Shape := ⟨1, ![10240]⟩
abbrev S16384x7168 : Shape := ⟨2, ![16384, 7168]⟩
abbrev S16384x1 : Shape := ⟨2, ![16384, 1]⟩
abbrev S1x10240 : Shape := ⟨2, ![1, 10240]⟩
abbrev S16384x10240 : Shape := ⟨2, ![16384, 10240]⟩
abbrev S16384x80 : Shape := ⟨2, ![16384, 80]⟩
abbrev S1024x7168 : Shape := ⟨2, ![1024, 7168]⟩
abbrev S1024x1 : Shape := ⟨2, ![1024, 1]⟩
abbrev S512x7168 : Shape := ⟨2, ![512, 7168]⟩
abbrev S1x512 : Shape := ⟨2, ![1, 512]⟩
abbrev S1024x512 : Shape := ⟨2, ![1024, 512]⟩
abbrev S1024x80 : Shape := ⟨2, ![1024, 80]⟩
abbrev S1024x128 : Shape := ⟨2, ![1024, 128]⟩
abbrev S1x128 : Shape := ⟨2, ![1, 128]⟩
abbrev S1024 : Shape := ⟨1, ![1024]⟩
abbrev S1x255 : Shape := ⟨2, ![1, 255]⟩
abbrev S1024x255 : Shape := ⟨2, ![1024, 255]⟩

abbrev nBuf : Space → Nat
  | .hbm => 12
  | .vmem => 16
  | .smem => 0
  | _ => 0

abbrev bufTy : (tb : Table) → Fin (tcTables nBuf tb) → BufTy
  | .hbm, ⟨0, _⟩ => ⟨S8x2048x7168, .fp8e4m3⟩
  | .hbm, ⟨1, _⟩ => ⟨S8x2048, .f32⟩
  | .hbm, ⟨2, _⟩ => ⟨S10240x7168, .fp8e4m3⟩
  | .hbm, ⟨3, _⟩ => ⟨S10240, .f32⟩
  | .hbm, ⟨4, _⟩ => ⟨S10240x7168, .fp8e4m3⟩
  | .hbm, ⟨5, _⟩ => ⟨S10240, .f32⟩
  | .hbm, ⟨6, _⟩ => ⟨S16384x7168, .fp8e4m3⟩
  | .hbm, ⟨7, _⟩ => ⟨S16384x1, .f32⟩
  | .hbm, ⟨8, _⟩ => ⟨S1x10240, .f32⟩
  | .hbm, ⟨9, _⟩ => ⟨S1x10240, .f32⟩
  | .hbm, ⟨10, _⟩ => ⟨S16384x10240, .fp8e4m3⟩
  | .hbm, ⟨11, _⟩ => ⟨S16384x80, .f32⟩
  | .local _ .vmem, ⟨0, _⟩ => ⟨S1024x7168, .fp8e4m3⟩
  | .local _ .vmem, ⟨1, _⟩ => ⟨S1024x7168, .fp8e4m3⟩
  | .local _ .vmem, ⟨2, _⟩ => ⟨S1024x1, .f32⟩
  | .local _ .vmem, ⟨3, _⟩ => ⟨S1024x1, .f32⟩
  | .local _ .vmem, ⟨4, _⟩ => ⟨S512x7168, .fp8e4m3⟩
  | .local _ .vmem, ⟨5, _⟩ => ⟨S512x7168, .fp8e4m3⟩
  | .local _ .vmem, ⟨6, _⟩ => ⟨S1x512, .f32⟩
  | .local _ .vmem, ⟨7, _⟩ => ⟨S1x512, .f32⟩
  | .local _ .vmem, ⟨8, _⟩ => ⟨S512x7168, .fp8e4m3⟩
  | .local _ .vmem, ⟨9, _⟩ => ⟨S512x7168, .fp8e4m3⟩
  | .local _ .vmem, ⟨10, _⟩ => ⟨S1x512, .f32⟩
  | .local _ .vmem, ⟨11, _⟩ => ⟨S1x512, .f32⟩
  | .local _ .vmem, ⟨12, _⟩ => ⟨S1024x512, .fp8e4m3⟩
  | .local _ .vmem, ⟨13, _⟩ => ⟨S1024x512, .fp8e4m3⟩
  | .local _ .vmem, ⟨14, _⟩ => ⟨S1024x80, .f32⟩
  | .local _ .vmem, ⟨15, _⟩ => ⟨S1024x80, .f32⟩
  | _, _ => ⟨S8x2048x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x7168 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x7168 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x80 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S8x2048x7168 : Shape := ⟨3, ![8, 2048, 7168]⟩
abbrev S8x2048 : Shape := ⟨2, ![8, 2048]⟩
abbrev S10240x7168 : Shape := ⟨2, ![10240, 7168]⟩
abbrev S10240 : Shape := ⟨1, ![10240]⟩
abbrev S16384x7168 : Shape := ⟨2, ![16384, 7168]⟩
abbrev S16384x1 : Shape := ⟨2, ![16384, 1]⟩
abbrev S1x10240 : Shape := ⟨2, ![1, 10240]⟩
abbrev S16384x10240 : Shape := ⟨2, ![16384, 10240]⟩
abbrev S16384x80 : Shape := ⟨2, ![16384, 80]⟩
abbrev S16384x80x128 : Shape := ⟨3, ![16384, 80, 128]⟩
abbrev S16384x80x1 : Shape := ⟨3, ![16384, 80, 1]⟩

abbrev nBuf : Space → Nat
  | .hbm => 12
  | .vmem => 8
  | .smem => 0
  | _ => 0

abbrev bufTy : (tb : Table) → Fin (tcTables nBuf tb) → BufTy
  | .hbm, ⟨0, _⟩ => ⟨S8x2048x7168, .fp8e4m3⟩
  | .hbm, ⟨1, _⟩ => ⟨S8x2048, .f32⟩
  | .hbm, ⟨2, _⟩ => ⟨S10240x7168, .fp8e4m3⟩
  | .hbm, ⟨3, _⟩ => ⟨S10240, .f32⟩
  | .hbm, ⟨4, _⟩ => ⟨S10240x7168, .fp8e4m3⟩
  | .hbm, ⟨5, _⟩ => ⟨S10240, .f32⟩
  | .hbm, ⟨6, _⟩ => ⟨S16384x7168, .fp8e4m3⟩
  | .hbm, ⟨7, _⟩ => ⟨S16384x1, .f32⟩
  | .hbm, ⟨8, _⟩ => ⟨S1x10240, .f32⟩
  | .hbm, ⟨9, _⟩ => ⟨S1x10240, .f32⟩
  | .hbm, ⟨10, _⟩ => ⟨S16384x10240, .fp8e4m3⟩
  | .hbm, ⟨11, _⟩ => ⟨S16384x80, .f32⟩
  | .local _ .vmem, ⟨0, _⟩ => ⟨S16384x7168, .fp8e4m3⟩
  | .local _ .vmem, ⟨1, _⟩ => ⟨S16384x1, .f32⟩
  | .local _ .vmem, ⟨2, _⟩ => ⟨S10240x7168, .fp8e4m3⟩
  | .local _ .vmem, ⟨3, _⟩ => ⟨S1x10240, .f32⟩
  | .local _ .vmem, ⟨4, _⟩ => ⟨S10240x7168, .fp8e4m3⟩
  | .local _ .vmem, ⟨5, _⟩ => ⟨S1x10240, .f32⟩
  | .local _ .vmem, ⟨6, _⟩ => ⟨S16384x10240, .fp8e4m3⟩
  | .local _ .vmem, ⟨7, _⟩ => ⟨S16384x80, .f32⟩
  | _, _ => ⟨S8x2048x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S16384x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10240x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10240x7168 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x10240 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x10240 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x80 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Block.lean ====
/- What one run of the kernel's body computes, in closed form.

   The body handles four groups of 128 columns one after the other, by the same operations written out four times. Here
   those operations are defined once (`gated`, `largest`, `expo`, `codesOf`, `scaleOf`), each printed value is
   shown to be one of them, and the contents of the two output blocks after the body are written with them. -/
module

public import proofs.«01_k».proof.Proof.Gen.KernelIdeal.Skeleton
public import Idealize.ShloMosaic.Lib.Pipeline.Value

@[expose] public section

noncomputable section

namespace Cert.KernelIdeal.Block

open Cert.KernelIdeal Cert.KernelIdeal.Gen Idealize.ShloMosaic Idealize.ShloMosaic.TcCoe Idealize.SL.Sem

variable {F : FTy → Type} [FloatOps F]

/-- The gated product of one group: `gate · sigmoid(gate) · up`, with both factors scaled by row and column scales. -/
def gated (g u : FVec F S1024x128 .f32) (s : FVec F S1024x1 .f32) (wg wu : Vec F S1x128 .f32) : FVec F S1024x128 .f32 :=
  have gate : FVec F S1024x128 .f32 := mulf g (mulf (broadcastTo S1024x128 s broadcasts_S1024x1_S1024x128)
    (broadcastTo S1024x128 (shapeCast S1x128 wg shapeCasts_S1x128_S1x128) broadcasts_S1x128_S1024x128))
  have up : FVec F S1024x128 .f32 := mulf u (mulf (broadcastTo S1024x128 s broadcasts_S1024x1_S1024x128)
    (broadcastTo S1024x128 (shapeCast S1x128 wu shapeCasts_S1x128_S1x128) broadcasts_S1x128_S1024x128))
  mulf (mulf gate (divf (broadcast S1024x128 (Scalar.ofBits .f32 0x3F800000#32))
    (addf (broadcast S1024x128 (Scalar.ofBits .f32 0x3F800000#32))
      (exp (subf (broadcast S1024x128 (Scalar.ofBits .f32 0x00000000#32)) gate))))) up

/-- The largest magnitude in each row of a group. -/
def largest (h : FVec F S1024x128 .f32) : FVec F S1024x1 .f32 :=
  shapeCast S1024x1 (multiReduction .maximumf [1] S1024 (absf h) 0xFF800000#32 reduces_S1024x128_S1024 (.inl rfl) rfl)
    shapeCasts_S1024_S1024x1

/-- The exponent field of each row's scale: how many of the 255 words with only an exponent field the row reaches, or
    255 where the largest magnitude is above every finite number. -/
def field (a : FVec F S1024x1 .f32) : IVec S1024x1 32 :=
  select (cmpf .ogt a (broadcast S1024x1 (Scalar.ofBits .f32 0x7F7FFFFF#32))) (broadcast S1024x1 255#32)
    (shapeCast S1024x1 (multiReductionI .add [1] S1024
      (select (cmpf .oge
          (broadcastTo S1024x255 (mulf a (broadcast S1024x1 (Scalar.ofBits .f32 0x3B124925#32))) broadcasts_S1024x1_S1024x255)
          (broadcastTo S1024x255 (bitcastToFloat .f32 (shli (addi (iota .tc S1x255 32 [1] iota_S1x255_d1_w32) (broadcast S1x255 1#32))
            (broadcast S1x255 23#32))) broadcasts_S1x255_S1024x255))
        (broadcast S1024x255 1#32) (broadcast S1024x255 0#32)) 0#32 reduces_S1024x255_S1024 rfl) shapeCasts_S1024_S1024x1)

/-- The exponent of each row's scale, as the kernel computes it. -/
def expo (a : FVec F S1024x1 .f32) : IVec S1024x1 32 :=
  select (ori (cmpi .eq (field a) (broadcast S1024x1 0#32)) (cmpi .eq (field a) (broadcast S1024x1 255#32)))
    (broadcast S1024x1 0#32) (subi (field a) (broadcast S1024x1 126#32))

/-- The codes of one group: its products times the reciprocal scale, clipped and narrowed. -/
def codesOf (h : FVec F S1024x128 .f32) (a : FVec F S1024x1 .f32) : FVec F S1024x128 .fp8e4m3 :=
  truncf .fp8e4m3 (minimumf (broadcast S1024x128 (Scalar.ofBits .f32 0x43E00000#32))
    (maximumf (broadcast S1024x128 (Scalar.ofBits .f32 0xC3E00000#32))
      (mulf h (broadcastTo S1024x128 (bitcastToFloat .f32 (shli (addi (subi (broadcast S1024x1 0#32) (expo a)) (broadcast S1024x1 127#32))
        (broadcast S1024x1 23#32))) broadcasts_S1024x1_S1024x128)))) bitsLt_fp8e4m3_f32

/-- The scales of one group, copied along the 80 lanes of the scale block. -/
def scaleOf (a : FVec F S1024x1 .f32) : FVec F S1024x80 .f32 :=
  broadcastTo S1024x80 (shapeCast S1024x1 (bitcastToFloat .f32 (shli (addi (expo a) (broadcast S1024x1 127#32))
    (broadcast S1024x1 23#32))) shapeCasts_S1024x1_S1024x1) broadcasts_S1024x1_S1024x80

/-- The scale block with the lane of group `q` of column tile `arg1` overwritten. -/
def putLane (lane : BitVec 32) (y old : FVec F S1024x80 .f32) : FVec F S1024x80 .f32 :=
  select (cmpi .eq (iota .tc S1024x80 32 [1] iota_S1024x80_d1_w32) (broadcast S1024x80 lane)) y old

/-! ## The rectangles the body reads and writes -/

abbrev rX : Rect S1024x7168 := Rect.unit (s := S1024x7168) ![0, 0] S1024x7168.size inb_S1024x7168_S1024x7168_0_0
abbrev rS : Rect S1024x1 := Rect.unit (s := S1024x1) ![0, 0] S1024x1.size inb_S1024x1_S1024x1_0_0
abbrev rW : Rect S512x7168 := Rect.unit (s := S512x7168) ![0, 0] S512x7168.size inb_S512x7168_S512x7168_0_0
abbrev rSc : Rect S1024x80 := Rect.unit (s := S1024x80) ![0, 0] S1024x80.size inb_S1024x80_S1024x80_0_0
abbrev rC0 : Rect S1x512 := Rect.unit (s := S1x512) ![0, 0] S1x128.size inb_S1x512_S1x128_0_0
abbrev rO0 : Rect S1024x512 := Rect.unit (s := S1024x512) ![0, 0] S1024x128.size inb_S1024x512_S1024x128_0_0
abbrev rC1 : Rect S1x512 := Rect.unit (s := S1x512) ![0, 128] S1x128.size inb_S1x512_S1x128_0_128
abbrev rO1 : Rect S1024x512 := Rect.unit (s := S1024x512) ![0, 128] S1024x128.size inb_S1024x512_S1024x128_0_128
abbrev rC2 : Rect S1x512 := Rect.unit (s := S1x512) ![0, 256] S1x128.size inb_S1x512_S1x128_0_256
abbrev rO2 : Rect S1024x512 := Rect.unit (s := S1024x512) ![0, 256] S1024x128.size inb_S1024x512_S1024x128_0_256
abbrev rC3 : Rect S1x512 := Rect.unit (s := S1x512) ![0, 384] S1x128.size inb_S1x512_S1x128_0_384
abbrev rO3 : Rect S1024x512 := Rect.unit (s := S1024x512) ![0, 384] S1024x128.size inb_S1024x512_S1024x128_0_384

/-! ## The four groups -/

/-- The gated products of group 0, from the six input blocks. -/
def h0 (x0 : Vec F S1024x7168 .fp8e4m3) (x1 : Vec F S1024x1 .f32) (x2 : Vec F S512x7168 .fp8e4m3) (x3 : Vec F S1x512 .f32) (x4 : Vec F S512x7168 .fp8e4m3) (x5 : Vec F S1x512 .f32) : FVec F S1024x128 .f32 :=
  gated (extractStridedSlice S1024x128 ![0, 0] (k0_pay3 (View.ld x0 rX) (View.ld x2 rW)) slices_S1024x512_o0_0_S1024x128)
    (extractStridedSlice S1024x128 ![0, 0] (k0_pay4 (View.ld x0 rX) (View.ld x4 rW)) slices_S1024x512_o0_0_S1024x128)
    (k0_pay5 (View.ld x1 rS)) (View.ld x3 rC0) (View.ld x5 rC0)

/-- The gated products of group 1, from the six input blocks. -/
def h1 (x0 : Vec F S1024x7168 .fp8e4m3) (x1 : Vec F S1024x1 .f32) (x2 : Vec F S512x7168 .fp8e4m3) (x3 : Vec F S1x512 .f32) (x4 : Vec F S512x7168 .fp8e4m3) (x5 : Vec F S1x512 .f32) : FVec F S1024x128 .f32 :=
  gated (extractStridedSlice S1024x128 ![0, 128] (k0_pay3 (View.ld x0 rX) (View.ld x2 rW)) slices_S1024x512_o0_128_S1024x128)
    (extractStridedSlice S1024x128 ![0, 128] (k0_pay4 (View.ld x0 rX) (View.ld x4 rW)) slices_S1024x512_o0_128_S1024x128)
    (k0_pay5 (View.ld x1 rS)) (View.ld x3 rC1) (View.ld x5 rC1)

/-- The gated products of group 2, from the six input blocks. -/
def h2 (x0 : Vec F S1024x7168 .fp8e4m3) (x1 : Vec F S1024x1 .f32) (x2 : Vec F S512x7168 .fp8e4m3) (x3 : Vec F S1x512 .f32) (x4 : Vec F S512x7168 .fp8e4m3) (x5 : Vec F S1x512 .f32) : FVec F S1024x128 .f32 :=
  gated (extractStridedSlice S1024x128 ![0, 256] (k0_pay3 (View.ld x0 rX) (View.ld x2 rW)) slices_S1024x512_o0_256_S1024x128)
    (extractStridedSlice S1024x128 ![0, 256] (k0_pay4 (View.ld x0 rX) (View.ld x4 rW)) slices_S1024x512_o0_256_S1024x128)
    (k0_pay5 (View.ld x1 rS)) (View.ld x3 rC2) (View.ld x5 rC2)

/-- The gated products of group 3, from the six input blocks. -/
def h3 (x0 : Vec F S1024x7168 .fp8e4m3) (x1 : Vec F S1024x1 .f32) (x2 : Vec F S512x7168 .fp8e4m3) (x3 : Vec F S1x512 .f32) (x4 : Vec F S512x7168 .fp8e4m3) (x5 : Vec F S1x512 .f32) : FVec F S1024x128 .f32 :=
  gated (extractStridedSlice S1024x128 ![0, 384] (k0_pay3 (View.ld x0 rX) (View.ld x2 rW)) slices_S1024x512_o0_384_S1024x128)
    (extractStridedSlice S1024x128 ![0, 384] (k0_pay4 (View.ld x0 rX) (View.ld x4 rW)) slices_S1024x512_o0_384_S1024x128)
    (k0_pay5 (View.ld x1 rS)) (View.ld x3 rC3) (View.ld x5 rC3)

/-- The block of codes after the body: four tiles of 128 columns, the last stored first in the list. -/
def outCodes (x0 : Vec F S1024x7168 .fp8e4m3) (x1 : Vec F S1024x1 .f32) (x2 : Vec F S512x7168 .fp8e4m3) (x3 : Vec F S1x512 .f32) (x4 : Vec F S512x7168 .fp8e4m3) (x5 : Vec F S1x512 .f32) : Vec F S1024x512 .fp8e4m3 :=
  View.canon [⟨rO3, codesOf (h3 x0 x1 x2 x3 x4 x5) (largest (h3 x0 x1 x2 x3 x4 x5))⟩, ⟨rO2, codesOf (h2 x0 x1 x2 x3 x4 x5) (largest (h2 x0 x1 x2 x3 x4 x5))⟩,
    ⟨rO1, codesOf (h1 x0 x1 x2 x3 x4 x5) (largest (h1 x0 x1 x2 x3 x4 x5))⟩, ⟨rO0, codesOf (h0 x0 x1 x2 x3 x4 x5) (largest (h0 x0 x1 x2 x3 x4 x5))⟩]

/-- The block of scales after the body at column tile `j`, from what it held before: lanes `4 j`, …, `4 j + 3` new. -/
def outScales (j : BitVec 32) (x0 : Vec F S1024x7168 .fp8e4m3) (x1 : Vec F S1024x1 .f32) (x2 : Vec F S512x7168 .fp8e4m3) (x3 : Vec F S1x512 .f32) (x4 : Vec F S512x7168 .fp8e4m3) (x5 : Vec F S1x512 .f32) (d : Vec F S1024x80 .f32) : FVec F S1024x80 .f32 :=
  putLane (Scalar.addi (Scalar.muli j 4#32) 3#32) (scaleOf (largest (h3 x0 x1 x2 x3 x4 x5)))
    (putLane (Scalar.addi (Scalar.muli j 4#32) 2#32) (scaleOf (largest (h2 x0 x1 x2 x3 x4 x5)))
      (putLane (Scalar.addi (Scalar.muli j 4#32) 1#32) (scaleOf (largest (h1 x0 x1 x2 x3 x4 x5)))
        (putLane (Scalar.addi (Scalar.muli j 4#32) 0#32) (scaleOf (largest (h0 x0 x1 x2 x3 x4 x5)))
          (k0_pay6 (View.ld d rSc)))))

/-- The stores of codes fill the block. -/
theorem cover_codes (p0 p1 p2 p3 : Vec F S1024x128 .fp8e4m3) (y : S1024x512.Idx) :
    ∃ pc ∈ ([⟨rO3, p3⟩, ⟨rO2, p2⟩, ⟨rO1, p1⟩, ⟨rO0, p0⟩] : List (View.Piece (Elt F) S1024x512 .fp8e4m3)), y ∈ pc.1.set :=
  View.cover_of_tiled [⟨rO3, p3⟩, ⟨rO2, p2⟩, ⟨rO1, p1⟩, ⟨rO0, p0⟩] S1024x128.size (by rfl) y

/-- The one store of scales fills the block. -/
theorem cover_scales (p : Vec F S1024x80 .f32) (y : S1024x80.Idx) :
    ∃ pc ∈ ([⟨rSc, p⟩] : List (View.Piece (Elt F) S1024x80 .f32)), y ∈ pc.1.set :=
  View.cover_of_tiled [⟨rSc, p⟩] S1024x80.size (by rfl) y

end Cert.KernelIdeal.Block

end
-- ==== Proof.Body.lean ====
/- One run of the kernel's body, as a statement about the eight staging buffers it is handed. -/
module

public import proofs.«01_k».proof.Proof.Gen.KernelIdeal.Frame
public import proofs.«01_k».proof.Proof.Block

@[expose] public section

set_option maxRecDepth 16384

noncomputable section

namespace Cert.KernelIdeal.Block

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body, run on the six input blocks at known contents, the block of codes at anything and the block of scales at
    contents `x7`, leaves the inputs as they were, the codes at `outCodes` and the scales at `outScales` of `x7`. -/
theorem sound_body_block (c : Dev nD) (E : Set ℕ) (i : grid0.Coords) (arg2 : Memref sig .tc .vmem S1024x7168 .fp8e4m3) (harg2 : arg2.IsWhole) (arg3 : Memref sig .tc .vmem S1024x1 .f32) (harg3 : arg3.IsWhole) (arg4 : Memref sig .tc .vmem S512x7168 .fp8e4m3) (harg4 : arg4.IsWhole) (arg5 : Memref sig .tc .vmem S1x512 .f32) (harg5 : arg5.IsWhole) (arg6 : Memref sig .tc .vmem S512x7168 .fp8e4m3) (harg6 : arg6.IsWhole) (arg7 : Memref sig .tc .vmem S1x512 .f32) (harg7 : arg7.IsWhole) (arg8 : Memref sig .tc .vmem S1024x512 .fp8e4m3) (harg8 : arg8.IsWhole) (arg9 : Memref sig .tc .vmem S1024x80 .f32) (harg9 : arg9.IsWhole)
    (x0 : Vec F S1024x7168 .fp8e4m3) (x1 : Vec F S1024x1 .f32) (x2 : Vec F S512x7168 .fp8e4m3) (x3 : Vec F S1x512 .f32) (x4 : Vec F S512x7168 .fp8e4m3) (x5 : Vec F S1x512 .f32) (x7 : Vec F S1024x80 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outCodes x0 x1 x2 x3 x4 x5) ∗ owns (c : Thread nD τ) arg9 fullShare (outScales (BitVec.ofNat 32 (i 1).val) x0 x1 x2 x3 x4 x5 x7)) -∗ K ⟨⟩))
      ⊢ wp frame (wpE (defs₀ (F := F)) Variants.none c none) E (cc0_swiglu_gate_up i arg2 harg2 arg3 harg3 arg4 harg4 arg5 harg5 arg6 harg6 arg7 harg7 arg8 harg8 arg9 harg9) K := by
  simp only [cc0_swiglu_gate_up_eq_skeleton]; unfold cc0_swiglu_gate_up_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0 hf1 hf2 hf3 hf4 hf5 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover_codes _ _ _ _)).trans ?_
    rfl
  iexists _; isplitr
  swap; · iexact H7
  ipureintro
  refine (View.read_writes_eq_canon _ _ _ (cover_scales _)).trans ?_
  refine (View.canon_unit_zero (by funext a; fin_cases a <;> rfl) _ _).trans ?_
  rfl

end Cert.KernelIdeal.Block

end
-- ==== Proof.Run.lean ====
/- The whole run of the kernel, with both result arrays named block by block.

   A block of codes is written by one grid point. A block of scales is written by the twenty grid points of one row block
   in turn, four lanes each, and goes back to memory after the last of them; before the first of them it holds anything.
   So what is said of a block of scales is said of the lanes written so far (`ScalesDone`). -/
module

public import proofs.«01_k».proof.Proof.Body
public import Idealize.ShloMosaic.Lib.Pipeline.DatRel
public import Idealize.ShloMosaic.Lib.Pipeline.ArrRel
public import Idealize.ShloMosaic.Lib.Claim

@[expose] public section

set_option maxRecDepth 16384

noncomputable section

namespace Cert.KernelIdeal.Block

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

/-- The column tile of grid point `t` is `t` modulo 20. -/
theorem coord1 : ∀ t : Fin cfg0.N, (grid0.coords t 1).val = t.val % 20 :=
  (by decide +kernel : ∀ t : Fin grid0.N, (grid0.coords t 1).val = t.val % 20)

/-- The row block of grid point `t` is `t` divided by 20. -/
theorem coord0 : ∀ t : Fin cfg0.N, (grid0.coords t 0).val = t.val / 20 :=
  (by decide +kernel : ∀ t : Fin grid0.N, (grid0.coords t 0).val = t.val / 20)

/-! ## What each block holds -/

/-- The codes that grid point `t` writes. -/
def codesAt (c : Dev nD) (t : Fin cfg0.N) : Vec F S1024x512 .fp8e4m3 :=
  outCodes (iblk m c 0 t) (iblk m c 1 t) (iblk m c 2 t) (iblk m c 3 t) (iblk m c 4 t) (iblk m c 5 t)

/-- The scales of group `q` of grid point `t`, along the 80 lanes. -/
def scalesAt (c : Dev nD) (t : Fin cfg0.N) (q : Fin 4) : FVec F S1024x80 .f32 :=
  match q with
  | 0 => scaleOf (largest (h0 (iblk m c 0 t) (iblk m c 1 t) (iblk m c 2 t) (iblk m c 3 t) (iblk m c 4 t) (iblk m c 5 t)))
  | 1 => scaleOf (largest (h1 (iblk m c 0 t) (iblk m c 1 t) (iblk m c 2 t) (iblk m c 3 t) (iblk m c 4 t) (iblk m c 5 t)))
  | 2 => scaleOf (largest (h2 (iblk m c 0 t) (iblk m c 1 t) (iblk m c 2 t) (iblk m c 3 t) (iblk m c 4 t) (iblk m c 5 t)))
  | 3 => scaleOf (largest (h3 (iblk m c 0 t) (iblk m c 1 t) (iblk m c 2 t) (iblk m c 3 t) (iblk m c 4 t) (iblk m c 5 t)))

/-- In the block `X` of scales after grid point `t`, the lanes of this row block's column tiles up to `t`'s are done. -/
def ScalesDone (c : Dev nD) (t : Fin cfg0.N) (X : Vec F S1024x80 .f32) : Prop :=
  ∀ (u : Fin cfg0.N) (q : Fin 4) (y : S1024x80.Idx), u.val / 20 = t.val / 20 → u.val ≤ t.val →
    (y 1).val = 4 * (u.val % 20) + q.val → X y = scalesAt m c u q y

/-- The lane number compared with a tile's lane: equal words exactly when equal numbers. -/
theorem putLane_apply (j q : ℕ) (hj : j < 20) (hq : q < 4) (Y old : FVec F S1024x80 .f32) (y : S1024x80.Idx) :
    putLane (Scalar.addi (Scalar.muli (BitVec.ofNat 32 j) 4#32) (BitVec.ofNat 32 q)) Y old y
      = if (y 1).val = 4 * j + q then Y y else old y := by
  have hy : (y 1).val < 80 := (y 1).isLt
  have key : (BitVec.ofNat 32 (y 1).val = BitVec.ofNat 32 j * 4#32 + BitVec.ofNat 32 q) ↔ (y 1).val = 4 * j + q := by
    rw [← BitVec.toNat_inj]
    simp only [BitVec.toNat_ofNat, BitVec.toNat_add, BitVec.toNat_mul]
    omega
  show (if BitVec.ofBool (BitVec.ofNat 32 (0 * 80 + (y 1).val) == BitVec.ofNat 32 j * 4#32 + BitVec.ofNat 32 q) = 1 then Y y else old y) = _
  rw [show 0 * 80 + (y 1).val = (y 1).val by omega]
  by_cases h : (y 1).val = 4 * j + q
  · rw [if_pos h, key.mpr h, if_pos (by simp)]
  · rw [if_neg h, if_neg (by
      rw [beq_eq_false_iff_ne.mpr fun e => h (key.mp e)]; decide)]

/-- One grid point's body carries `ScalesDone` on. -/
theorem scalesDone_step (c : Dev nD) (t : Fin cfg0.N) (d : Vec F S1024x80 .f32)
    (h : t.val % 20 ≠ 0 → ∀ u : Fin cfg0.N, u.val + 1 = t.val → ScalesDone m c u d) :
    ScalesDone m c t (outScales (BitVec.ofNat 32 (grid0.coords t 1).val) (iblk m c 0 t) (iblk m c 1 t) (iblk m c 2 t) (iblk m c 3 t) (iblk m c 4 t) (iblk m c 5 t) d) := by
  intro u q y hu hle hy
  have hj : t.val % 20 < 20 := Nat.mod_lt _ (by omega)
  rw [coord1]
  unfold outScales
  rw [show (3#32) = BitVec.ofNat 32 3 from rfl, show (2#32) = BitVec.ofNat 32 2 from rfl, show (1#32) = BitVec.ofNat 32 1 from rfl,
    show (0#32) = BitVec.ofNat 32 0 from rfl]
  rw [putLane_apply _ 3 hj (by omega), putLane_apply _ 2 hj (by omega), putLane_apply _ 1 hj (by omega), putLane_apply _ 0 hj (by omega)]
  by_cases hut : u = t
  · subst hut
    fin_cases q
    · have e : (y 1).val = 4 * (u.val % 20) + 0 := hy
      rw [if_neg (by omega), if_neg (by omega), if_neg (by omega), if_pos e]; rfl
    · have e : (y 1).val = 4 * (u.val % 20) + 1 := hy
      rw [if_neg (by omega), if_neg (by omega), if_pos e]; rfl
    · have e : (y 1).val = 4 * (u.val % 20) + 2 := hy
      rw [if_neg (by omega), if_pos e]; rfl
    · have e : (y 1).val = 4 * (u.val % 20) + 3 := hy
      rw [if_pos e]; rfl
  · have hlt : u.val < t.val := lt_of_le_of_ne hle fun e => hut (Fin.ext e)
    have hq := q.isLt
    rw [if_neg (by omega), if_neg (by omega), if_neg (by omega), if_neg (by omega)]
    have h' := h (by omega) ⟨t.val - 1, by omega⟩ (by show t.val - 1 + 1 = t.val; omega) u q y
      (by show u.val / 20 = (t.val - 1) / 20; omega) (by show u.val ≤ t.val - 1; omega) hy
    refine Eq.trans ?_ h'
    unfold k0_pay6
    rw [View.ld_unit_zero (by funext a; fin_cases a <;> rfl), shapeCast_self]

/-! ## The pipeline's proof data -/

/-- The two output windows, of which a predicate is kept instead of exact contents. -/
def marks : Fin 8 → Bool := fun w => w.val == 6 || w.val == 7

/-- What the body may leave in each output window. -/
def Rl (c : Dev nD) (w : Fin cfg0.W) (t : Fin cfg0.N) : ((cfg0.win w).block.Idx → Elt F (cfg0.win w).elt) → Prop :=
  match w with
  | ⟨6, _⟩ => fun X => X = codesAt m c t
  | ⟨7, _⟩ => fun X => ScalesDone m c t X
  | _ => fun _ => True

/-- The exact data of the inputs; the outputs are named by `Rl`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The data read as relations, the outputs held to `Rl`. -/
abbrev rdat (c : Dev nD) : RDat τ (Elt F) Unit ℕ (UR sig nD τ) ℕ cfg0 c := (dats m 0 c).toRRel marks (Rl m c)

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body may find in the block of scales past the first column tile: the lanes of the tiles before are done. -/
theorem finds_scales (c : Dev nD) (t : Fin cfg0.N) (X : Vec F S1024x80 .f32) (hX : (rdat m c).Finds 7 t X) (ht : t.val % 20 ≠ 0)
    (u : Fin cfg0.N) (hu : u.val + 1 = t.val) : ScalesDone m c u X := by
  have h := ((rdat m c).finds_of_pos (w := 7) (t := t) (by rfl) (by omega) X).mp hX
  have e : (⟨t.val - 1, Nat.lt_of_le_of_lt (Nat.sub_le _ _) t.isLt⟩ : Fin cfg0.N) = u := Fin.ext (by show t.val - 1 = u.val; omega)
  rw [e] at h
  rcases h with h | h
  · have := (flush0_7 u).mp h
    omega
  · exact (dats m 0 c).toRRel_leaves (fgt := marks) (Rl := Rl m c) (w := 7) rfl h

/-! ## The body at a grid point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ Y, ⌜(rdat m c).Finds 6 t Y⌝ ∗ owns (c : Thread nD τ) (st0_6 t) fullShare Y)
    ∗ (∃ Y, ⌜(rdat m c).Finds 7 t Y⌝ ∗ owns (c : Thread nD τ) (st0_7 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, ⌜Rl m c 6 t X⌝ ∗ owns (c : Thread nD τ) (st0_6 t) fullShare X)
    ∗ (∃ X, ⌜Rl m c 7 t X⌝ ∗ owns (c : Thread nD τ) (st0_7 t) fullShare X))

set_option maxHeartbeats 800000 in
/-- The body at any point keeps the inputs, writes the codes and carries the scales on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩, ⟨%d6, %h6, H6⟩, ⟨%d7, %h7, H7⟩⟩
  iapply (sound_body_block c Set.univ (grid0.coords t) _ _ _ _ _ _ _ _ _ _ _ _ _ _ _ _ (iblk m c 0 t) (iblk m c 1 t) (iblk m c 2 t) (iblk m c 3 t) (iblk m c 4 t) (iblk m c 5 t) d7)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    swap; · iexact H6
    ipureintro; exact rfl
  iexists _; isplitr
  swap; · iexact H7
  ipureintro
  exact scalesDone_step m c t d7 (finds_scales m c t d7 h7)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) :
    BodyObligationRel (dats (F := F) m 0 c) (defs₀ (F := F)) Variants.none () Set.univ marks (Rl m c) := fun t => by
  rw [bigSep_W0, bigSep_W0, defs₀_row]
  exact triple_restated (sound_body m c t) rfl .rfl fun _ => .rfl

/-! ## The run -/

set_option backward.isDefEq.respectTransparency.types false in
/-- Every run terminates with the arrays as the data say and every counter at zero. -/
theorem run_main_quiescent : θ_run defs (onTc (τ := τ) (main (F := F))) (s₀ m ρ)
    (fun r => RDat.FramePost (cfgs 0) (rdat m) (V m) r ∧ r.2.sem = fun _ => 0) :=
  RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

end Cert.KernelIdeal.Block

end
-- ==== Proof.Arrays.lean ====
/- The two result arrays of the kernel after a run, element by element, and the argument arrays unchanged. -/
module

public import proofs.«01_k».proof.Proof.Run
public import Idealize.ShloMosaic.Lib.Pipeline.ValueKit
public import Idealize.ShloMosaic.Lib.ValueIdx

@[expose] public section

set_option maxRecDepth 16384

noncomputable section

namespace Cert.KernelIdeal.Block

open Cert.KernelIdeal Cert.KernelIdeal.Gen
open Idealize.ShloMosaic Idealize.ShloMosaic.TcCoe
open Idealize.SL Idealize.SL.Sem
open Idealize.ShloMosaic.Pipeline (Dat RDat Cfg Window)

variable {F : FTy → Type} [FloatOps F]

variable (m : (ℓ : Loc nD τ sig) → Buf (Elt F) ℓ) (ρ : Dev nD → PrngReg)

/-- The grid point of row block `i` and column tile `j`. -/
def pt (i j : ℕ) (hi : i < 16) (hj : j < 20) : Fin cfg0.N := ⟨20 * i + j, by show 20 * i + j < 320; omega⟩

/-- The array of codes: element `(r, f)` is written by grid point `(r / 1024, f / 512)`. -/
def codesArr (c : Dev nD) : Vec F S16384x10240 .fp8e4m3 := fun i =>
  codesAt m c (pt ((i 0).val / 1024) ((i 1).val / 512)
      (by have : (i 0).val < 16384 := (i 0).isLt; omega) (by have : (i 1).val < 10240 := (i 1).isLt; omega))
    (ix2 ⟨(i 0).val % 1024, Nat.mod_lt _ (by omega)⟩ ⟨(i 1).val % 512, Nat.mod_lt _ (by omega)⟩)

/-- The array of scales: element `(r, g)` is written by grid point `(r / 1024, g / 4)`, as its group `g % 4`. -/
def scalesArr (c : Dev nD) : Vec F S16384x80 .f32 := fun i =>
  scalesAt m c (pt ((i 0).val / 1024) ((i 1).val / 4)
      (by have : (i 0).val < 16384 := (i 0).isLt; omega) (by have : (i 1).val < 80 := (i 1).isLt; omega))
    ⟨(i 1).val % 4, Nat.mod_lt _ (by omega)⟩
    (ix2 ⟨(i 0).val % 1024, Nat.mod_lt _ (by omega)⟩ (i 1))

/-- An element of the array of codes is what its grid point wrote there. -/
theorem codesArr_eq (c : Dev nD) (t : Fin cfg0.N) (y : S1024x512.Idx) (z : S16384x10240.Idx)
    (h0 : (z 0).val = t.val / 20 * 1024 + (y 0).val) (h1 : (z 1).val = t.val % 20 * 512 + (y 1).val) :
    codesAt m c t y = codesArr m c z := by
  have b0 : (y 0).val < 1024 := (y 0).isLt
  have b1 : (y 1).val < 512 := (y 1).isLt
  have ht : t.val < 320 := t.isLt
  unfold codesArr
  have et : pt ((z 0).val / 1024) ((z 1).val / 512)
      (by have : (z 0).val < 16384 := (z 0).isLt; omega) (by have : (z 1).val < 10240 := (z 1).isLt; omega) = t :=
    Fin.ext (by show 20 * ((z 0).val / 1024) + (z 1).val / 512 = t.val; omega)
  rw [et]
  congr 1
  funext a
  fin_cases a
  · exact Fin.ext (by show (y 0).val = (z 0).val % 1024; omega)
  · exact Fin.ext (by show (y 1).val = (z 1).val % 512; omega)

/-- An element of the array of scales is what a grid point at the end of its row block left there. -/
theorem scalesArr_eq (c : Dev nD) (t : Fin cfg0.N) (X : Vec F S1024x80 .f32) (hX : ScalesDone m c t X) (ht : t.val % 20 = 19)
    (y : S1024x80.Idx) (z : S16384x80.Idx) (h0 : (z 0).val = t.val / 20 * 1024 + (y 0).val) (h1 : (z 1).val = (y 1).val) :
    X y = scalesArr m c z := by
  have b0 : (y 0).val < 1024 := (y 0).isLt
  have b1 : (y 1).val < 80 := (y 1).isLt
  have ht' : t.val < 320 := t.isLt
  unfold scalesArr
  refine (hX (pt ((z 0).val / 1024) ((z 1).val / 4)
      (by have : (z 0).val < 16384 := (z 0).isLt; omega) (by have : (z 1).val < 80 := (z 1).isLt; omega))
      ⟨(z 1).val % 4, Nat.mod_lt _ (by omega)⟩ y
      (by show (20 * ((z 0).val / 1024) + (z 1).val / 4) / 20 = t.val / 20; omega)
      (by show 20 * ((z 0).val / 1024) + (z 1).val / 4 ≤ t.val; omega)
      (by show (y 1).val = 4 * ((20 * ((z 0).val / 1024) + (z 1).val / 4) % 20) + (z 1).val % 4; omega)).trans ?_
  congr 1
  funext a
  fin_cases a
  · exact Fin.ext (by show (y 0).val = (z 0).val % 1024; omega)
  · exact Fin.ext (by show (y 1).val = (z 1).val; omega)

/-- Where the output blocks lie. -/
theorem idx6 : ∀ t : Fin cfg0.N, win0_6.index t = ![t.val / 20, t.val % 20] :=
  (by decide +kernel : ∀ t : Fin grid0.N, win0_6.index t = ![t.val / 20, t.val % 20])
theorem idx7 : ∀ t : Fin cfg0.N, win0_7.index t = ![t.val / 20, 0] :=
  (by decide +kernel : ∀ t : Fin grid0.N, win0_7.index t = ![t.val / 20, 0])

/-- The run, with both result arrays named, the arguments unchanged and every counter at zero. -/
theorem run_named : θ_run defs (onTc (τ := τ) (main (F := F))) ⟨m, fun _ => 0, ρ⟩ (fun r => (∀ c : Dev nD,
      (r.2.mem ((c.tc : Thread nD τ).loc main_v4_0) = codesArr m c
      ∧ r.2.mem ((c.tc : Thread nD τ).loc main_v4_1) = scalesArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine (θ_run defs _ _).mono (fun r hr => ⟨fun c => ?_, hr.2⟩) (run_main_quiescent m ρ)
  have h := hr.1
  refine ⟨?_, ((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((A_eq m c 2).trans (V_main_arg2 m c)),
      ((h c).2 main_arg3 (Pipeline.mem_restRefs_of main_arg3 (by decide) (by decide))).trans (V_main_arg3 m c),
      (Pipeline.RDat.FramePost.arr_in h c 4 rfl).trans ((A_eq m c 4).trans (V_main_arg4 m c)),
      ((h c).2 main_arg5 (Pipeline.mem_restRefs_of main_arg5 (by decide) (by decide))).trans (V_main_arg5 m c)⟩
  obtain ⟨after, hL, hA⟩ := Pipeline.RDat.FramePost.exists_exact h c
  constructor
  · refine (hA 6).trans ?_
    refine Dat.arrAt_eq_of_covers _ 6 _ (by decide +kernel) fun t hf y => ?_
    have e : after 6 t = codesAt m c t := (dats m 0 c).toRRel_leaves (fgt := marks) (Rl := Rl m c) (w := 6) rfl (hL 6 t hf)
    blk_simp
    rw [Pipeline.RDat.withAfter_after]
    refine (congrFun e y).trans (codesArr_eq m c t y _ ?_ ?_)
    · blk_simp [idx6]
    · blk_simp [idx6]
  · refine (hA 7).trans ?_
    refine Dat.arrAt_eq_of_covers _ 7 _ (by decide +kernel) fun t hf y => ?_
    have e : ScalesDone m c t (after 7 t) := (dats m 0 c).toRRel_leaves (fgt := marks) (Rl := Rl m c) (w := 7) rfl (hL 7 t hf)
    blk_simp
    rw [Pipeline.RDat.withAfter_after]
    refine scalesArr_eq m c t _ e ((flush0_7 t).mp hf) y _ ?_ ?_
    · blk_simp [idx7]
    · blk_simp [idx7]

/-- The run's frame: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run_named m ρ)

end Cert.KernelIdeal.Block

end
-- ==== Proof.SameProgram.lean ====
/- The kernel and its idealized form are printed without any rewrite, so they are one program over one signature. Here
   their body tables and their main programs are shown equal, at any instance of the float operations. -/
module

public import proofs.«01_k».proof.Proof.Arrays
public import proofs.«01_k».proof.Proof.Gen.Kernel

@[expose] public section

namespace Cert.Same

open Idealize.ShloMosaic Idealize.ShloMosaic.TcCoe Idealize.SL.Sem

variable {F : FTy → Type} [FloatOps F]

/-- The two printed bodies are the same function. -/
theorem body_eq : @Cert.Kernel.cc0_swiglu_gate_up F _ _ = @Cert.KernelIdeal.cc0_swiglu_gate_up F _ _ := rfl

/-- The two tables of bodies are the same: label by label, the same function on the same staging buffers. -/
theorem defs₀_eq : Cert.Kernel.defs₀ (F := F) = Cert.KernelIdeal.defs₀ (F := F) := by
  refine congrArg Defs.onTc (funext fun ℓ => funext fun a => ?_)
  match ℓ, a with
  | ⟨0, _⟩, (t, s) =>
    exact congrFun (congrFun (congrFun (congrFun (congrFun (congrFun (congrFun (congrFun (congrFun (congrFun (congrFun
      (congrFun (congrFun (congrFun (congrFun (congrFun (congrFun body_eq _) _) _) _) _) _) _) _) _) _) _) _) _) _) _) _) _
  | ⟨_ + 1, h⟩, _ => exact absurd h (Nat.not_lt.2 (Nat.le_add_left _ _))

/-- The two programs have the same body table, their pipelines included. -/
theorem defs_eq : Cert.Kernel.defs (F := F) = Cert.KernelIdeal.defs (F := F) :=
  congrArg (Pipeline.defs Cert.KernelIdeal.pcfgs) defs₀_eq

/-- The two main programs are the same. -/
theorem main_eq : Cert.Kernel.main (F := F) = Cert.KernelIdeal.main (F := F) := rfl

end Cert.Same

namespace Cert.Kernel

open Idealize.ShloMosaic Idealize.ShloMosaic.TcCoe Idealize.SL.Sem

variable {F : FTy → Type} [FloatOps F]

/-- The kernel's frame: its run ends with the arguments unchanged and every counter at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [Cert.Same.defs_eq, Cert.Same.main_eq]
  exact Cert.KernelIdeal.Block.frame m ρ

end Cert.Kernel
-- ==== Proof.Scale.lean ====
/- The power-of-two scale of one group, on its own: numbers only, no program.

   A group's scale is `2^e` where `e` is the binary exponent of `t = a · c`, `a` the group's largest magnitude and `c`
   the single-precision number next to 1/448. The kernel reads `e` off by comparing `t` with the 255 words whose only
   set bits are an exponent field, counting the ones it reaches; the reference writes it with a logarithm. This module
   proves the two agree at every extended real. -/
module

public import Idealize.ShloMosaic.PureOps.Ideal.Laws
public import Mathlib.Analysis.SpecialFunctions.Log.Basic
public import Mathlib.Analysis.SpecialFunctions.Pow.Real

@[expose] public section

noncomputable section

namespace Cert.Scale

open Idealize.ShloMosaic

/-- The value of the single-precision word whose only set bits are the exponent field `k`. -/
def word (k : BitVec 32) : EReal := Ideal.ofBits .f32 (k <<< 23)

/-- An exponent field from 1 to 254 gives a power of two. -/
theorem word_of_lt (k : ℕ) (h1 : 1 ≤ k) (h2 : k ≤ 254) :
    word (BitVec.ofNat 32 k) = (((2 : ℝ) ^ ((k : ℤ) - 127) : ℝ) : EReal) := by
  interval_cases k <;> (simp [word, Ideal.ofBits, Ideal.ieee, -EReal.coe_mul, -EReal.coe_pow]; try norm_num)

/-- The field 255 gives `+∞`. -/
theorem word_255 : word 255#32 = ⊤ := by
  simp [word, Ideal.ofBits, Ideal.ieee]

/-- The field 0 gives 0. -/
theorem word_0 : word 0#32 = 0 := by
  simp [word, Ideal.ofBits, Ideal.ieee]

/-- The constant the kernel multiplies by. -/
theorem ofBits_c : Ideal.ofBits .f32 0x3B124925#32 = ((9586981 * (2 : ℝ) ^ (-32 : ℤ) : ℝ) : EReal) := by
  simp [Ideal.ofBits, Ideal.ieee, -EReal.coe_mul, -EReal.coe_pow]; try norm_num

/-- The largest finite single-precision number. -/
theorem ofBits_max : Ideal.ofBits .f32 0x7F7FFFFF#32 = (((2 ^ 24 - 1) * (2 : ℝ) ^ (104 : ℤ) : ℝ) : EReal) := by
  simp [Ideal.ofBits, Ideal.ieee, -EReal.coe_mul, -EReal.coe_pow]; try norm_num

/-- The smallest normal single-precision number. -/
theorem ofBits_tiny : Ideal.ofBits .f32 0x00800000#32 = (((2 : ℝ) ^ (-126 : ℤ) : ℝ) : EReal) := by
  simp [Ideal.ofBits, Ideal.ieee, -EReal.coe_mul, -EReal.coe_pow]; try norm_num

theorem ofBits_one : Ideal.ofBits .f32 0x3F800000#32 = 1 := by
  simp [Ideal.ofBits, Ideal.ieee, -EReal.coe_mul, -EReal.coe_pow]; try norm_num

theorem ofBits_two : Ideal.ofBits .f32 0x40000000#32 = ((2 : ℝ) : EReal) := by
  simp [Ideal.ofBits, Ideal.ieee, -EReal.coe_mul, -EReal.coe_pow]; try norm_num

/-! ## The exponent, written in the two ways -/

/-- The exponent field as the kernel finds it: 255 above every finite number, otherwise how many of the words with
    exponent fields 1, …, 255 are at most `a · c`. -/
def fieldOf (a : EReal) : BitVec 32 :=
  if Ideal.ofBits .f32 0x7F7FFFFF#32 < a then 255#32
  else Finset.fold IntOp.addi 0#32 (fun x : Fin 255 =>
    if Ideal.ofBits .f32 (IntOp.shli .vector (IntOp.addi (BitVec.ofNat 32 x.val) 1#32) 23#32)
        ≤ a * Ideal.ofBits .f32 0x3B124925#32 then 1#32 else 0#32) Finset.univ

/-- The exponent as the kernel computes it: the field minus 126, but 0 for the fields 0 and 255. -/
def expoOf (a : EReal) : BitVec 32 :=
  Scalar.select (IntOp.ori (IntOp.cmpi .eq (fieldOf a) 0#32) (IntOp.cmpi .eq (fieldOf a) 255#32)) 0#32
    (IntOp.subi (fieldOf a) 126#32)

/-- The exponent as the reference computes it, with a logarithm. -/
def expR (a : EReal) : EReal :=
  Scalar.select (IntOp.ori
      (BitVec.ofBool (decide (a * Ideal.ofBits .f32 0x3B124925#32 < Ideal.ofBits .f32 0x00800000#32)))
      (BitVec.ofBool (decide (Ideal.ofBits .f32 0x7F7FFFFF#32 < a)))) 0
    (Ideal.liftRound Int.floor (Ideal.div (Ideal.log (a * Ideal.ofBits .f32 0x3B124925#32))
      (Ideal.log (Ideal.ofBits .f32 0x40000000#32))) + 1)

/-- The scale of a group with largest magnitude `a`. -/
def scale (a : EReal) : EReal := Ideal.exp2 (expR a)

/-- The code of the product `h` in a group with largest magnitude `a`. -/
def code (h a : EReal) : EReal :=
  min (Ideal.ofBits .f32 0x43E00000#32) (max (Ideal.ofBits .f32 0xC3E00000#32) (h * Ideal.exp2 (0 - expR a)))

/-! ## Counting -/

/-- Adding up ones and zeros counts. -/
theorem fold_count {ι : Type} [DecidableEq ι] (s : Finset ι) (p : ι → Prop) [DecidablePred p] :
    Finset.fold IntOp.addi 0#32 (fun x => if p x then 1#32 else 0#32) s = BitVec.ofNat 32 (s.filter p).card := by
  induction s using Finset.induction_on with
  | empty => simp
  | insert x s hx ih =>
    rw [Finset.fold_insert hx, ih, Finset.filter_insert]
    by_cases h : p x
    · rw [if_pos h, if_pos h, Finset.card_insert_of_notMem (by simp [hx])]
      show 1#32 + _ = _
      rw [BitVec.add_comm, ← BitVec.ofNat_add]
    · rw [if_neg h, if_neg h]
      show 0#32 + _ = _
      rw [BitVec.zero_add]

/-- How many of the numbers 1, …, 255 are at most `n`. -/
theorem card_le (n : ℕ) (h : n ≤ 255) : ((Finset.univ : Finset (Fin 255)).filter fun x => x.val + 1 ≤ n).card = n := by
  have e : ((Finset.univ : Finset (Fin 255)).filter fun x => x.val + 1 ≤ n).map Fin.valEmbedding = Finset.range n := by
    ext k
    simp only [Finset.mem_map, Finset.mem_filter, Finset.mem_univ, true_and, Fin.valEmbedding_apply, Finset.mem_range]
    constructor
    · rintro ⟨x, hx, rfl⟩; omega
    · intro hk; exact ⟨⟨k, by omega⟩, by simpa using hk, rfl⟩
  rw [← Finset.card_map, e, Finset.card_range]

/-- The kernel's shift into the exponent field. -/
theorem shl_23 (b : BitVec 32) : IntOp.shli .vector b 23#32 = b <<< 23 := by
  unfold IntOp.shli
  rw [if_pos (by decide)]
  exact BitVec.shiftLeft_eq'

/-- The word the kernel compares with in column `x` is the one with exponent field `x + 1`. -/
theorem word_col (x : ℕ) : Ideal.ofBits .f32 (IntOp.shli .vector (IntOp.addi (BitVec.ofNat 32 x) 1#32) 23#32)
    = word (BitVec.ofNat 32 (x + 1)) := by
  unfold word
  rw [shl_23]
  congr 2
  exact (BitVec.ofNat_add x 1).symm

/-- Where the words at most `a · c` are those with exponent field up to `n`, the kernel's field is `n`. -/
theorem fieldOf_eq (a : EReal) (n : ℕ) (hn : n ≤ 255) (ha : ¬ Ideal.ofBits .f32 0x7F7FFFFF#32 < a)
    (h : ∀ k : ℕ, 1 ≤ k → k ≤ 255 → (word (BitVec.ofNat 32 k) ≤ a * Ideal.ofBits .f32 0x3B124925#32 ↔ k ≤ n)) :
    fieldOf a = BitVec.ofNat 32 n := by
  unfold fieldOf
  rw [if_neg ha]
  have e : (fun x : Fin 255 => if Ideal.ofBits .f32 (IntOp.shli .vector (IntOp.addi (BitVec.ofNat 32 x.val) 1#32) 23#32)
        ≤ a * Ideal.ofBits .f32 0x3B124925#32 then 1#32 else 0#32) = fun x : Fin 255 => if x.val + 1 ≤ n then 1#32 else 0#32 := by
    funext x
    rw [word_col]
    exact if_congr (h (x.val + 1) (by omega) (by omega)) rfl rfl
  rw [e, fold_count, card_le n hn]

/-! ## The binary exponent of a positive number -/

/-- Where `2^z ≤ r < 2^(z+1)` and `z` is in range, the word with exponent field `k` is at most `r` exactly when
    `k ≤ z + 127`. -/
theorem word_le_iff (r : ℝ) (z : ℤ) (hz : z ≤ 120) (h1 : (2 : ℝ) ^ z ≤ r) (h2 : r < (2 : ℝ) ^ (z + 1))
    (k : ℕ) (hk1 : 1 ≤ k) (hk : k ≤ 255) : word (BitVec.ofNat 32 k) ≤ (r : EReal) ↔ (k : ℤ) ≤ z + 127 := by
  by_cases h : k = 255
  · subst h
    have e : word (BitVec.ofNat 32 255) = ⊤ := word_255
    rw [e, top_le_iff]
    constructor
    · intro h; exact absurd h (EReal.coe_ne_top r)
    · intro h; omega
  · rw [word_of_lt k hk1 (by omega), EReal.coe_le_coe_iff]
    constructor
    · intro h
      have := (zpow_lt_zpow_iff_right₀ (by norm_num : (1 : ℝ) < 2)).mp (lt_of_le_of_lt h h2)
      omega
    · intro h
      exact le_trans (zpow_le_zpow_right₀ (by norm_num : (1 : ℝ) ≤ 2) (by omega)) h1

/-- The integer part of the binary logarithm. -/
theorem floor_log (r : ℝ) (z : ℤ) (h1 : (2 : ℝ) ^ z ≤ r) (h2 : r < (2 : ℝ) ^ (z + 1)) :
    ⌊Real.log r / Real.log 2⌋ = z := by
  have hl : 0 < Real.log 2 := Real.log_pos (by norm_num)
  have hz : 0 < (2 : ℝ) ^ z := by positivity
  have hr : 0 < r := lt_of_lt_of_le hz h1
  rw [Int.floor_eq_iff]
  constructor
  · rw [le_div_iff₀ hl, ← Real.log_zpow]
    exact Real.log_le_log hz h1
  · rw [div_lt_iff₀ hl]
    have := Real.log_lt_log hr h2
    rw [Real.log_zpow] at this
    push_cast at this
    exact this

/-! ## The two exponents agree -/

/-- What a scale's exponent word is worth. -/
theorem exp2_int (z : ℤ) : Ideal.exp2 ((z : ℝ) : EReal) = (((2 : ℝ) ^ z : ℝ) : EReal) := by
  show ((Real.rpow 2 (z : ℝ) : ℝ) : EReal) = _
  congr 1
  exact Real.rpow_intCast 2 z

/-- The cases of the argument: an overflow, an underflow, or a normal exponent `z`. -/
theorem cases (a : EReal) :
    (fieldOf a = 255#32 ∧ expR a = 0) ∨ (fieldOf a = 0#32 ∧ expR a = 0)
      ∨ ∃ n : ℕ, 1 ≤ n ∧ n ≤ 246 ∧ fieldOf a = BitVec.ofNat 32 n ∧ expR a = (((n : ℤ) - 126 : ℤ) : ℝ) := by
  by_cases hM : Ideal.ofBits .f32 0x7F7FFFFF#32 < a
  · left
    refine ⟨by unfold fieldOf; rw [if_pos hM], ?_⟩
    unfold expR
    rw [decide_eq_true hM]
    cases (decide (a * Ideal.ofBits .f32 0x3B124925#32 < Ideal.ofBits .f32 0x00800000#32)) <;> rfl
  right
  by_cases hT : a * Ideal.ofBits .f32 0x3B124925#32 < Ideal.ofBits .f32 0x00800000#32
  · left
    constructor
    · refine fieldOf_eq a 0 (by omega) hM fun k h1 h2 => ?_
      constructor
      · intro h
        exfalso
        have e : word (BitVec.ofNat 32 1) ≤ word (BitVec.ofNat 32 k) := by
          by_cases hk : k = 255
          · subst hk
            have e : word (BitVec.ofNat 32 255) = ⊤ := word_255
            rw [e]; exact le_top
          · rw [word_of_lt 1 (by omega) (by omega), word_of_lt k h1 (by omega), EReal.coe_le_coe_iff]
            exact zpow_le_zpow_right₀ (by norm_num : (1 : ℝ) ≤ 2) (by omega)
        have e1 : word (BitVec.ofNat 32 1) = Ideal.ofBits .f32 0x00800000#32 := by
          rw [word_of_lt 1 (by omega) (by omega), ofBits_tiny]; norm_num
        rw [e1] at e
        exact absurd hT (not_lt.mpr (e.trans h))
      · intro h; omega
    · unfold expR
      rw [decide_eq_true hT]
      cases (decide (Ideal.ofBits .f32 0x7F7FFFFF#32 < a)) <;> rfl
  right
  have hM' := not_lt.mp hM
  have hT' := not_lt.mp hT
  rw [ofBits_c, ofBits_tiny] at hT'
  rw [ofBits_max] at hM'
  have hbot : a ≠ ⊥ := by
    rintro rfl
    rw [EReal.bot_mul_coe_of_pos (by positivity)] at hT'
    exact absurd hT' (not_le.mpr (EReal.bot_lt_coe _))
  have htop : a ≠ ⊤ := by
    rintro rfl
    exact absurd hM' (not_le.mpr (EReal.coe_lt_top _))
  lift a to ℝ using ⟨htop, hbot⟩
  have et : (a : EReal) * Ideal.ofBits .f32 0x3B124925#32 = ((a * (9586981 * (2 : ℝ) ^ (-32 : ℤ)) : ℝ) : EReal) := by
    rw [ofBits_c, EReal.coe_mul a]
  rw [← EReal.coe_mul, EReal.coe_le_coe_iff] at hT'
  rw [EReal.coe_le_coe_iff] at hM'
  generalize hr : a * (9586981 * (2 : ℝ) ^ (-32 : ℤ)) = r at et hT'
  have hpos : 0 < r := lt_of_lt_of_le (by positivity) hT'
  have hlt : r < (2 : ℝ) ^ (120 : ℤ) := by
    rw [← hr]
    refine lt_of_le_of_lt (mul_le_mul_of_nonneg_right hM' (by positivity)) ?_
    norm_num
  obtain ⟨z, h1, h2⟩ := exists_mem_Ico_zpow hpos (by norm_num : (1 : ℝ) < 2)
  have hz1 : -127 < z := by
    have := (zpow_lt_zpow_iff_right₀ (by norm_num : (1 : ℝ) < 2)).mp (lt_of_le_of_lt hT' h2)
    omega
  have hz2 : z < 120 := (zpow_lt_zpow_iff_right₀ (by norm_num : (1 : ℝ) < 2)).mp (lt_of_le_of_lt h1 hlt)
  refine ⟨(z + 127).toNat, by omega, by omega, ?_, ?_⟩
  · refine fieldOf_eq a _ (by omega) hM fun k hk1 hk2 => ?_
    rw [et, word_le_iff r z (by omega) h1 h2 k hk1 hk2]
    omega
  · unfold expR
    rw [decide_eq_false hM, decide_eq_false hT]
    show Ideal.liftRound Int.floor (Ideal.div (Ideal.log _) (Ideal.log _)) + 1 = _
    have hl : Real.log 2 ≠ 0 := (Real.log_pos (by norm_num)).ne'
    have e1 : Ideal.log (r : EReal) = ((Real.log r : ℝ) : EReal) := if_neg (not_le.mpr hpos)
    have e2 : Ideal.log ((2 : ℝ) : EReal) = ((Real.log 2 : ℝ) : EReal) := if_neg (by norm_num)
    rw [et, ofBits_two, e1, e2]
    have e3 : Ideal.div ((Real.log r : ℝ) : EReal) ((Real.log 2 : ℝ) : EReal) = ((Real.log r / Real.log 2 : ℝ) : EReal) := by
      unfold Ideal.div
      rw [if_neg (by rw [← EReal.coe_zero, EReal.coe_eq_coe_iff]; exact hl), div_eq_mul_inv, EReal.coe_mul, EReal.coe_inv]
    rw [e3, Ideal.liftRound_coe, floor_log r z h1 h2, ← EReal.coe_one, ← EReal.coe_add, EReal.coe_eq_coe_iff]
    have : (((z + 127).toNat : ℕ) : ℤ) = z + 127 := by omega
    rw [this]
    push_cast
    ring

/-- A word with an exponent field, as the kernel builds it, is worth that power of two. -/
theorem word_shl (b : BitVec 32) (k : ℕ) (h : IntOp.addi b 127#32 = BitVec.ofNat 32 k) (h1 : 1 ≤ k) (h2 : k ≤ 254) :
    Ideal.ofBits .f32 (IntOp.shli .vector (IntOp.addi b 127#32) 23#32) = (((2 : ℝ) ^ ((k : ℤ) - 127) : ℝ) : EReal) := by
  rw [h, ← word_of_lt k h1 h2, shl_23]
  rfl

/-- The kernel's exponent and the reference's, together. -/
theorem expo_cases (a : EReal) : ∃ z : ℤ, -126 < z ∧ z < 121 ∧ expoOf a = BitVec.ofInt 32 z ∧ expR a = ((z : ℝ) : EReal) := by
  rcases cases a with ⟨h, he⟩ | ⟨h, he⟩ | ⟨n, h1, h2, h, he⟩
  · refine ⟨0, by omega, by omega, ?_, by rw [he]; norm_num⟩
    unfold expoOf; rw [h]; decide
  · refine ⟨0, by omega, by omega, ?_, by rw [he]; norm_num⟩
    unfold expoOf; rw [h]; decide
  · refine ⟨(n : ℤ) - 126, by omega, by omega, ?_, he⟩
    unfold expoOf; rw [h]
    have key : ∀ n : Fin 247, 1 ≤ n.val → Scalar.select (IntOp.ori (IntOp.cmpi .eq (BitVec.ofNat 32 n.val) 0#32)
        (IntOp.cmpi .eq (BitVec.ofNat 32 n.val) 255#32)) 0#32
        (IntOp.subi (BitVec.ofNat 32 n.val) 126#32) = BitVec.ofInt 32 ((n.val : ℤ) - 126) := by decide +kernel
    exact key ⟨n, by omega⟩ h1

/-- The scale word the kernel builds is the reference's scale. -/
theorem scale_word (a : EReal) :
    Ideal.ofBits .f32 (IntOp.shli .vector (IntOp.addi (expoOf a) 127#32) 23#32) = scale a := by
  obtain ⟨z, h1, h2, he, hr⟩ := expo_cases a
  unfold scale
  rw [hr, exp2_int, word_shl (expoOf a) (z + 127).toNat ?_ (by omega) (by omega)]
  · congr 2; omega
  · rw [he]
    have e : ((z + 127).toNat : ℤ) = z + 127 := by omega
    have e' : BitVec.ofNat 32 (z + 127).toNat = BitVec.ofInt 32 (z + 127) := by rw [← BitVec.ofInt_natCast, e]
    rw [e', BitVec.ofInt_add]
    rfl

/-- The reciprocal word the kernel builds is the reference's reciprocal scale. -/
theorem inverse_word (a : EReal) :
    Ideal.ofBits .f32 (IntOp.shli .vector (IntOp.addi (IntOp.subi 0#32 (expoOf a)) 127#32) 23#32)
      = Ideal.exp2 (0 - expR a) := by
  obtain ⟨z, h1, h2, he, hr⟩ := expo_cases a
  have e0 : (0 : EReal) - ((z : ℝ) : EReal) = (((-z : ℤ) : ℝ) : EReal) := by
    rw [← EReal.coe_zero, ← EReal.coe_sub]; push_cast; rw [zero_sub]
  rw [hr, e0, exp2_int, word_shl _ (127 - z).toNat ?_ (by omega) (by omega)]
  · congr 2; omega
  · rw [he]
    have e : ((127 - z).toNat : ℤ) = -z + 127 := by omega
    have e' : BitVec.ofNat 32 (127 - z).toNat = BitVec.ofInt 32 (-z + 127) := by rw [← BitVec.ofInt_natCast, e]
    rw [e', BitVec.ofInt_add, BitVec.ofInt_neg]
    unfold IntOp.addi IntOp.subi
    rw [BitVec.zero_sub]
    rfl

end Cert.Scale

end
-- ==== Proof.Spec.lean ====
/- The mathematics of one output element, over plain numbers: the gated product of one row and one column, the largest
   magnitude of a group of 128 columns, and from them the group's scale and the element's code (`Scale.scale`,
   `Scale.code`). Both programs' results are read as these. -/
module

public import proofs.«01_k».proof.Proof.Scale

@[expose] public section

noncomputable section

namespace Cert.Spec

open Idealize.ShloMosaic

/-- `gate · sigmoid(gate) · up`, where `gate` and `up` are the dot products of the row `x` with the columns `wg` and
    `wu`, each scaled by the row's scale `s` times the column's scale. -/
def gated (x : Fin 7168 → EReal) (s : EReal) (wg : Fin 7168 → EReal) (sg : EReal) (wu : Fin 7168 → EReal) (su : EReal) :
    EReal :=
  (∑ k, x k * wg k) * (s * sg) * Ideal.logistic ((∑ k, x k * wg k) * (s * sg)) * ((∑ k, x k * wu k) * (s * su))

/-- The largest magnitude of 128 numbers. -/
def largest (h : Fin 128 → EReal) : EReal :=
  Finset.fold max (Ideal.ofBits .f32 0xFF800000#32) (fun l => FloatOps.absf (F := Ideal) (φ := .f32) (h l)) Finset.univ

section
variable (x : Fin 8 → Fin 2048 → Fin 7168 → EReal) (xs : Fin 8 → Fin 2048 → EReal)
  (wg : Fin 10240 → Fin 7168 → EReal) (sg : Fin 10240 → EReal) (wu : Fin 10240 → Fin 7168 → EReal) (su : Fin 10240 → EReal)

/-- The gated product of row `r` (of all 16384 rows) and column `f`, from the six arguments. -/
def product (r : Fin 16384) (f : Fin 10240) : EReal :=
  gated (fun k => x ⟨r.val / 2048, by omega⟩ ⟨r.val % 2048, Nat.mod_lt _ (by omega)⟩ k)
    (xs ⟨r.val / 2048, by omega⟩ ⟨r.val % 2048, Nat.mod_lt _ (by omega)⟩) (wg f) (sg f) (wu f) (su f)

/-- The largest magnitude of row `r` in group `g`. -/
def groupMax (r : Fin 16384) (g : Fin 80) : EReal :=
  largest fun l => product x xs wg sg wu su r ⟨g.val * 128 + l.val, by omega⟩

/-- The scale of row `r` and group `g`. -/
def scaleAt (r : Fin 16384) (g : Fin 80) : EReal := Scale.scale (groupMax x xs wg sg wu su r g)

/-- The code of row `r` and column `f`. -/
def codeAt (r : Fin 16384) (f : Fin 10240) : EReal :=
  Scale.code (product x xs wg sg wu su r f) (groupMax x xs wg sg wu su r ⟨f.val / 128, by omega⟩)

end

/-- The sigmoid written with an exponential. -/
theorem logistic_eq (g : EReal) : Ideal.div 1 (1 + Ideal.exp (0 - g)) = Ideal.logistic g := by
  have e : (0 : EReal) - g = -g := by rw [sub_eq_add_neg, zero_add]
  rw [e]
  rfl

end Cert.Spec

end
-- ==== Proof.Tile.lean ====
/- One run of the kernel's body, element by element, at the extended reals: every code and every scale of a block is the
   mathematics of `Spec` on the elements of the six input blocks. -/
module

public import proofs.«01_k».proof.Proof.Block
public import proofs.«01_k».proof.Proof.Spec
public import Idealize.ShloMosaic.Lib.Pointwise
public import Idealize.ShloMosaic.Lib.Pipeline.ValueKit

@[expose] public section

noncomputable section

namespace Cert.KernelIdeal.Block

open Cert.KernelIdeal Cert.KernelIdeal.Gen Idealize.ShloMosaic Idealize.ShloMosaic.TcCoe Idealize.SL.Sem
open Idealize.ShloMosaic.Pointwise

/-- The field the kernel finds for a row. -/
theorem field_at (a : FVec Ideal S1024x1 .f32) (r : Fin 1024) : field a (ix2 r 0) = Scale.fieldOf (a (ix2 r 0)) := by
  pointwise [field]
  rfl

/-- The exponent the kernel finds for a row. -/
theorem expo_at (a : FVec Ideal S1024x1 .f32) (r : Fin 1024) : expo a (ix2 r 0) = Scale.expoOf (a (ix2 r 0)) := by
  pointwise [expo]
  rw [field_at]
  rfl

/-- The scale of a row, in every lane. -/
theorem scaleOf_at (a : FVec Ideal S1024x1 .f32) (r : Fin 1024) (g : Fin 80) :
    scaleOf a (ix2 r g) = Scale.scale (a (ix2 r 0)) := by
  pointwise [scaleOf]
  rw [expo_at]
  exact Scale.scale_word _

/-- The codes of a row. -/
theorem codesOf_at (h : FVec Ideal S1024x128 .f32) (a : FVec Ideal S1024x1 .f32) (r : Fin 1024) (l : Fin 128) :
    codesOf h a (ix2 r l) = Scale.code (h (ix2 r l)) (a (ix2 r 0)) := by
  pointwise [codesOf]
  rw [expo_at, Scale.inverse_word]
  rfl

/-- The largest magnitude of a row of a group. -/
theorem largest_at (h : FVec Ideal S1024x128 .f32) (r : Fin 1024) :
    largest h (ix2 r 0) = Spec.largest fun l => h (ix2 r l) := by
  pointwise [largest]
  rfl

section
variable (x0 : Vec Ideal S1024x7168 .fp8e4m3) (x1 : Vec Ideal S1024x1 .f32) (x2 : Vec Ideal S512x7168 .fp8e4m3)
  (x3 : Vec Ideal S1x512 .f32) (x4 : Vec Ideal S512x7168 .fp8e4m3) (x5 : Vec Ideal S1x512 .f32)

/-- The gated product of row `r` and column `f` of a tile, from the six input blocks. -/
def H (r : Fin 1024) (f : Fin 512) : EReal :=
  Spec.gated (fun k => x0 (ix2 r k)) (x1 (ix2 r 0)) (fun k => x2 (ix2 f k)) (x3 (ix2 0 f))
    (fun k => x4 (ix2 f k)) (x5 (ix2 0 f))

/-- Group 0's gated products. -/
theorem h0_at (r : Fin 1024) (l : Fin 128) :
    h0 x0 x1 x2 x3 x4 x5 (ix2 r l) = H x0 x1 x2 x3 x4 x5 r ⟨l.val, by omega⟩ := by
  pointwise [h0, gated, k0_pay3, k0_pay4, k0_pay5, k0_pay2]
  rw [Spec.logistic_eq]
  rfl

/-- Group 1's gated products. -/
theorem h1_at (r : Fin 1024) (l : Fin 128) :
    h1 x0 x1 x2 x3 x4 x5 (ix2 r l) = H x0 x1 x2 x3 x4 x5 r ⟨128 + l.val, by omega⟩ := by
  pointwise [h1, gated, k0_pay3, k0_pay4, k0_pay5, k0_pay2]
  rw [Spec.logistic_eq]
  rfl

/-- Group 2's gated products. -/
theorem h2_at (r : Fin 1024) (l : Fin 128) :
    h2 x0 x1 x2 x3 x4 x5 (ix2 r l) = H x0 x1 x2 x3 x4 x5 r ⟨256 + l.val, by omega⟩ := by
  pointwise [h2, gated, k0_pay3, k0_pay4, k0_pay5, k0_pay2]
  rw [Spec.logistic_eq]
  rfl

/-- Group 3's gated products. -/
theorem h3_at (r : Fin 1024) (l : Fin 128) :
    h3 x0 x1 x2 x3 x4 x5 (ix2 r l) = H x0 x1 x2 x3 x4 x5 r ⟨384 + l.val, by omega⟩ := by
  pointwise [h3, gated, k0_pay3, k0_pay4, k0_pay5, k0_pay2]
  rw [Spec.logistic_eq]
  rfl

/-- The largest magnitude of row `r` in group `q` of a tile. -/
def A (r : Fin 1024) (q : Fin 4) : EReal :=
  Spec.largest fun l => H x0 x1 x2 x3 x4 x5 r ⟨128 * q.val + l.val, by omega⟩

theorem largest0_at (r : Fin 1024) : largest (h0 x0 x1 x2 x3 x4 x5) (ix2 r 0) = A x0 x1 x2 x3 x4 x5 r 0 := by
  rw [largest_at]
  refine congrArg Spec.largest (funext fun l => (h0_at x0 x1 x2 x3 x4 x5 r l).trans ?_)
  exact congrArg _ (Fin.ext (by show l.val = 128 * 0 + l.val; omega))

theorem largest1_at (r : Fin 1024) : largest (h1 x0 x1 x2 x3 x4 x5) (ix2 r 0) = A x0 x1 x2 x3 x4 x5 r 1 := by
  rw [largest_at]
  refine congrArg Spec.largest (funext fun l => (h1_at x0 x1 x2 x3 x4 x5 r l).trans ?_)
  exact congrArg _ (Fin.ext (by show 128 + l.val = 128 * 1 + l.val; omega))

theorem largest2_at (r : Fin 1024) : largest (h2 x0 x1 x2 x3 x4 x5) (ix2 r 0) = A x0 x1 x2 x3 x4 x5 r 2 := by
  rw [largest_at]
  refine congrArg Spec.largest (funext fun l => (h2_at x0 x1 x2 x3 x4 x5 r l).trans ?_)
  exact congrArg _ (Fin.ext (by show 256 + l.val = 128 * 2 + l.val; omega))

theorem largest3_at (r : Fin 1024) : largest (h3 x0 x1 x2 x3 x4 x5) (ix2 r 0) = A x0 x1 x2 x3 x4 x5 r 3 := by
  rw [largest_at]
  refine congrArg Spec.largest (funext fun l => (h3_at x0 x1 x2 x3 x4 x5 r l).trans ?_)
  exact congrArg _ (Fin.ext (by show 384 + l.val = 128 * 3 + l.val; omega))

/-- The codes of group 0, wherever they are stored. -/
theorem codes0_at (x : S1024x128.Idx) (r : Fin 1024) (f : Fin 512) (q : Fin 4) (k0 : r.val = (x 0).val)
    (k1 : f.val = 0 + (x 1).val) (hq : q.val = f.val / 128) :
    codesOf (h0 x0 x1 x2 x3 x4 x5) (largest (h0 x0 x1 x2 x3 x4 x5)) x
      = Scale.code (H x0 x1 x2 x3 x4 x5 r f) (A x0 x1 x2 x3 x4 x5 r q) := by
  obtain ⟨a, b, rfl⟩ : ∃ (a : Fin 1024) (b : Fin 128), x = ix2 a b := ⟨x 0, x 1, by funext i; fin_cases i <;> rfl⟩
  obtain rfl : q = 0 := Fin.ext (by have : f.val = 0 + b.val := k1; have := b.isLt; show q.val = 0; omega)
  obtain rfl : r = a := Fin.ext k0
  obtain ⟨f, bf⟩ := f
  obtain rfl : f = 0 + b.val := k1
  rw [codesOf_at, h0_at, largest0_at]
  simp only [Nat.zero_add]

/-- The codes of group 1, wherever they are stored. -/
theorem codes1_at (x : S1024x128.Idx) (r : Fin 1024) (f : Fin 512) (q : Fin 4) (k0 : r.val = (x 0).val)
    (k1 : f.val = 128 + (x 1).val) (hq : q.val = f.val / 128) :
    codesOf (h1 x0 x1 x2 x3 x4 x5) (largest (h1 x0 x1 x2 x3 x4 x5)) x
      = Scale.code (H x0 x1 x2 x3 x4 x5 r f) (A x0 x1 x2 x3 x4 x5 r q) := by
  obtain ⟨a, b, rfl⟩ : ∃ (a : Fin 1024) (b : Fin 128), x = ix2 a b := ⟨x 0, x 1, by funext i; fin_cases i <;> rfl⟩
  obtain rfl : q = 1 := Fin.ext (by have : f.val = 128 + b.val := k1; have := b.isLt; show q.val = 1; omega)
  obtain rfl : r = a := Fin.ext k0
  obtain ⟨f, bf⟩ := f
  obtain rfl : f = 128 + b.val := k1
  rw [codesOf_at, h1_at, largest1_at]

/-- The codes of group 2, wherever they are stored. -/
theorem codes2_at (x : S1024x128.Idx) (r : Fin 1024) (f : Fin 512) (q : Fin 4) (k0 : r.val = (x 0).val)
    (k1 : f.val = 256 + (x 1).val) (hq : q.val = f.val / 128) :
    codesOf (h2 x0 x1 x2 x3 x4 x5) (largest (h2 x0 x1 x2 x3 x4 x5)) x
      = Scale.code (H x0 x1 x2 x3 x4 x5 r f) (A x0 x1 x2 x3 x4 x5 r q) := by
  obtain ⟨a, b, rfl⟩ : ∃ (a : Fin 1024) (b : Fin 128), x = ix2 a b := ⟨x 0, x 1, by funext i; fin_cases i <;> rfl⟩
  obtain rfl : q = 2 := Fin.ext (by have : f.val = 256 + b.val := k1; have := b.isLt; show q.val = 2; omega)
  obtain rfl : r = a := Fin.ext k0
  obtain ⟨f, bf⟩ := f
  obtain rfl : f = 256 + b.val := k1
  rw [codesOf_at, h2_at, largest2_at]

/-- The codes of group 3, wherever they are stored. -/
theorem codes3_at (x : S1024x128.Idx) (r : Fin 1024) (f : Fin 512) (q : Fin 4) (k0 : r.val = (x 0).val)
    (k1 : f.val = 384 + (x 1).val) (hq : q.val = f.val / 128) :
    codesOf (h3 x0 x1 x2 x3 x4 x5) (largest (h3 x0 x1 x2 x3 x4 x5)) x
      = Scale.code (H x0 x1 x2 x3 x4 x5 r f) (A x0 x1 x2 x3 x4 x5 r q) := by
  obtain ⟨a, b, rfl⟩ : ∃ (a : Fin 1024) (b : Fin 128), x = ix2 a b := ⟨x 0, x 1, by funext i; fin_cases i <;> rfl⟩
  obtain rfl : q = 3 := Fin.ext (by have : f.val = 384 + b.val := k1; have := b.isLt; show q.val = 3; omega)
  obtain rfl : r = a := Fin.ext k0
  obtain ⟨f, bf⟩ := f
  obtain rfl : f = 384 + b.val := k1
  rw [codesOf_at, h3_at, largest3_at]

/-- Every code of the block the body leaves: the code of its product in its group of 128 columns. -/
theorem outCodes_at (r : Fin 1024) (f : Fin 512) (q : Fin 4) (hq : q.val = f.val / 128) :
    outCodes x0 x1 x2 x3 x4 x5 (ix2 r f) = Scale.code (H x0 x1 x2 x3 x4 x5 r f) (A x0 x1 x2 x3 x4 x5 r q) := by
  have k0 := fun x h h' => codes0_at x0 x1 x2 x3 x4 x5 x r f q h h' hq
  have k1 := fun x h h' => codes1_at x0 x1 x2 x3 x4 x5 x r f q h h' hq
  have k2 := fun x h h' => codes2_at x0 x1 x2 x3 x4 x5 x r f q h h' hq
  have k3 := fun x h h' => codes3_at x0 x1 x2 x3 x4 x5 x r f q h h' hq
  unfold outCodes
  generalize codesOf (h0 x0 x1 x2 x3 x4 x5) (largest (h0 x0 x1 x2 x3 x4 x5)) = p0 at *
  generalize codesOf (h1 x0 x1 x2 x3 x4 x5) (largest (h1 x0 x1 x2 x3 x4 x5)) = p1 at *
  generalize codesOf (h2 x0 x1 x2 x3 x4 x5) (largest (h2 x0 x1 x2 x3 x4 x5)) = p2 at *
  generalize codesOf (h3 x0 x1 x2 x3 x4 x5) (largest (h3 x0 x1 x2 x3 x4 x5)) = p3 at *
  generalize Scale.code (H x0 x1 x2 x3 x4 x5 r f) (A x0 x1 x2 x3 x4 x5 r q) = v at *
  canon_tiles x h
  · exact k3 x h0 h1
  · exact k2 x h0 h1
  · exact k1 x h0 h1
  · exact k0 x h0 (h1.trans (Nat.zero_add _).symm)

end

end Cert.KernelIdeal.Block

end
-- ==== Proof.KernelValue.lean ====
/- The kernel's two result arrays at the extended reals, element by element, from the six arguments. -/
module

public import proofs.«01_k».proof.Proof.Arrays
public import proofs.«01_k».proof.Proof.Tile

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.Pointwise

variable (m : (ℓ : Loc nD τ sig) → Buf (Elt Ideal) ℓ) (c : Dev nD)

/-- Where the input blocks lie. -/
theorem idxIn : ∀ t : Fin cfg0.N, win0_0.index t = ![t.val / 20, 0] ∧ win0_1.index t = ![t.val / 20, 0]
    ∧ win0_2.index t = ![t.val % 20, 0] ∧ win0_3.index t = ![0, t.val % 20]
    ∧ win0_4.index t = ![t.val % 20, 0] ∧ win0_5.index t = ![0, t.val % 20] :=
  (by decide +kernel : ∀ t : Fin grid0.N, win0_0.index t = ![t.val / 20, 0] ∧ win0_1.index t = ![t.val / 20, 0]
    ∧ win0_2.index t = ![t.val % 20, 0] ∧ win0_3.index t = ![0, t.val % 20]
    ∧ win0_4.index t = ![t.val % 20, 0] ∧ win0_5.index t = ![0, t.val % 20])

/-- A block of rows read at an element. -/
theorem read0 (t : Fin cfg0.N) (r : Fin 1024) (k : Fin 7168) (R : Fin 16384) (hR : R.val = t.val / 20 * 1024 + r.val) :
    iblk m c 0 t (ix2 r k) = m ((c : Thread nD τ).loc main_arg0)
      (ix3 ⟨R.val / 2048, by omega⟩ ⟨R.val % 2048, Nat.mod_lt _ (by omega)⟩ k) := by
  blk_ext! [iblk, V, idxIn t]

theorem read1 (t : Fin cfg0.N) (r : Fin 1024) (R : Fin 16384) (hR : R.val = t.val / 20 * 1024 + r.val) :
    iblk m c 1 t (ix2 r 0) = m ((c : Thread nD τ).loc main_arg1)
      (ix2 ⟨R.val / 2048, by omega⟩ ⟨R.val % 2048, Nat.mod_lt _ (by omega)⟩) := by
  blk_ext! [iblk, V, idxIn t]

theorem read2 (t : Fin cfg0.N) (f : Fin 512) (k : Fin 7168) (G : Fin 10240) (hG : G.val = t.val % 20 * 512 + f.val) :
    iblk m c 2 t (ix2 f k) = m ((c : Thread nD τ).loc main_arg2) (ix2 G k) := by
  blk_ext! [iblk, V, idxIn t]

theorem read3 (t : Fin cfg0.N) (f : Fin 512) (G : Fin 10240) (hG : G.val = t.val % 20 * 512 + f.val) :
    iblk m c 3 t (ix2 0 f) = m ((c : Thread nD τ).loc main_arg3) (ix1 G) := by
  blk_ext! [iblk, V, idxIn t]

theorem read4 (t : Fin cfg0.N) (f : Fin 512) (k : Fin 7168) (G : Fin 10240) (hG : G.val = t.val % 20 * 512 + f.val) :
    iblk m c 4 t (ix2 f k) = m ((c : Thread nD τ).loc main_arg4) (ix2 G k) := by
  blk_ext! [iblk, V, idxIn t]

theorem read5 (t : Fin cfg0.N) (f : Fin 512) (G : Fin 10240) (hG : G.val = t.val % 20 * 512 + f.val) :
    iblk m c 5 t (ix2 0 f) = m ((c : Thread nD τ).loc main_arg5) (ix1 G) := by
  blk_ext! [iblk, V, idxIn t]

/-- The arguments of device `c` as functions of their coordinates. -/
def aX (i : Fin 8) (j : Fin 2048) (k : Fin 7168) : EReal := m ((c : Thread nD τ).loc main_arg0) (ix3 i j k)
def aXs (i : Fin 8) (j : Fin 2048) : EReal := m ((c : Thread nD τ).loc main_arg1) (ix2 i j)
def aWg (f : Fin 10240) (k : Fin 7168) : EReal := m ((c : Thread nD τ).loc main_arg2) (ix2 f k)
def aSg (f : Fin 10240) : EReal := m ((c : Thread nD τ).loc main_arg3) (ix1 f)
def aWu (f : Fin 10240) (k : Fin 7168) : EReal := m ((c : Thread nD τ).loc main_arg4) (ix2 f k)
def aSu (f : Fin 10240) : EReal := m ((c : Thread nD τ).loc main_arg5) (ix1 f)

/-- A tile's gated product is the one of its row and column in the whole arrays. -/
theorem H_at (t : Fin cfg0.N) (r : Fin 1024) (f : Fin 512) (R : Fin 16384) (G : Fin 10240)
    (hR : R.val = t.val / 20 * 1024 + r.val) (hG : G.val = t.val % 20 * 512 + f.val) :
    H (iblk m c 0 t) (iblk m c 1 t) (iblk m c 2 t) (iblk m c 3 t) (iblk m c 4 t) (iblk m c 5 t) r f
      = Spec.product (aX m c) (aXs m c) (aWg m c) (aSg m c) (aWu m c) (aSu m c) R G := by
  unfold H Spec.product
  congr 1
  · exact funext fun k => read0 m c t r k R hR
  · exact read1 m c t r R hR
  · exact funext fun k => read2 m c t f k G hG
  · exact read3 m c t f G hG
  · exact funext fun k => read4 m c t f k G hG
  · exact read5 m c t f G hG

/-- A tile's largest magnitude is the one of its row and group in the whole arrays. -/
theorem A_at (t : Fin cfg0.N) (r : Fin 1024) (q : Fin 4) (R : Fin 16384) (g : Fin 80)
    (hR : R.val = t.val / 20 * 1024 + r.val) (hg : g.val = t.val % 20 * 4 + q.val) :
    A (iblk m c 0 t) (iblk m c 1 t) (iblk m c 2 t) (iblk m c 3 t) (iblk m c 4 t) (iblk m c 5 t) r q
      = Spec.groupMax (aX m c) (aXs m c) (aWg m c) (aSg m c) (aWu m c) (aSu m c) R g := by
  unfold A Spec.groupMax
  refine congrArg Spec.largest (funext fun l => H_at m c t r _ R _ hR ?_)
  show g.val * 128 + l.val = t.val % 20 * 512 + (128 * q.val + l.val)
  omega

/-- The array of codes the kernel leaves. -/
theorem codesArr_at (R : Fin 16384) (G : Fin 10240) : codesArr m c (ix2 R G)
    = Spec.codeAt (aX m c) (aXs m c) (aWg m c) (aSg m c) (aWu m c) (aSu m c) R G := by
  have bR := R.isLt
  have bG := G.isLt
  unfold codesArr codesAt Spec.codeAt
  refine (outCodes_at _ _ _ _ _ _ _ _ ⟨(G.val % 512) / 128, by omega⟩ rfl).trans
    (congrArg₂ Scale.code (H_at m c _ _ _ R G ?_ ?_) (A_at m c _ _ _ R _ ?_ ?_))
  · show R.val = (20 * (R.val / 1024) + G.val / 512) / 20 * 1024 + R.val % 1024
    omega
  · show G.val = (20 * (R.val / 1024) + G.val / 512) % 20 * 512 + G.val % 512
    omega
  · show R.val = (20 * (R.val / 1024) + G.val / 512) / 20 * 1024 + R.val % 1024
    omega
  · show G.val / 128 = (20 * (R.val / 1024) + G.val / 512) % 20 * 4 + G.val % 512 / 128
    omega

/-- The scales of one group of a tile. -/
theorem scalesAt_at (t : Fin cfg0.N) (q : Fin 4) (r : Fin 1024) (g : Fin 80) : scalesAt m c t q (ix2 r g)
    = Scale.scale (A (iblk m c 0 t) (iblk m c 1 t) (iblk m c 2 t) (iblk m c 3 t) (iblk m c 4 t) (iblk m c 5 t) r q) := by
  fin_cases q
  · exact (scaleOf_at _ r g).trans (congrArg Scale.scale (largest0_at _ _ _ _ _ _ r))
  · exact (scaleOf_at _ r g).trans (congrArg Scale.scale (largest1_at _ _ _ _ _ _ r))
  · exact (scaleOf_at _ r g).trans (congrArg Scale.scale (largest2_at _ _ _ _ _ _ r))
  · exact (scaleOf_at _ r g).trans (congrArg Scale.scale (largest3_at _ _ _ _ _ _ r))

/-- The array of scales the kernel leaves. -/
theorem scalesArr_at (R : Fin 16384) (g : Fin 80) : scalesArr m c (ix2 R g)
    = Spec.scaleAt (aX m c) (aXs m c) (aWg m c) (aSg m c) (aWu m c) (aSu m c) R g := by
  have bR := R.isLt
  have bg := g.isLt
  unfold scalesArr Spec.scaleAt
  refine (scalesAt_at m c _ _ _ _).trans (congrArg Scale.scale (A_at m c _ _ _ R g ?_ ?_))
  · show R.val = (20 * (R.val / 1024) + g.val / 4) / 20 * 1024 + R.val % 1024
    omega
  · show g.val = (20 * (R.val / 1024) + g.val / 4) % 20 * 4 + g.val % 4
    omega

end Cert.KernelIdeal.Block

end
-- ==== Proof.RefValue.lean ====
/- The reference's two result arrays at the extended reals, element by element, from the six arguments.
   The reference has one grid point whose blocks are the whole arrays. -/
module

public import proofs.«01_k».proof.Proof.Gen.ReferenceIdeal.Frame
public import proofs.«01_k».proof.Proof.Spec
public import Idealize.ShloMosaic.Lib.Pipeline.ValueKit
public import Idealize.ShloMosaic.Lib.Pointwise

@[expose] public section

set_option maxRecDepth 16384

noncomputable section

namespace Cert.ReferenceIdeal.Ref

open Cert.ReferenceIdeal Cert.ReferenceIdeal.Gen Idealize.ShloMosaic Idealize.ShloMosaic.TcCoe Idealize.SL.Sem
open Idealize.ShloMosaic.Pointwise
open Idealize.ShloMosaic.Pipeline (Dat)

section
variable (v0 : Vec Ideal S16384x7168 .fp8e4m3) (v2 : Vec Ideal S16384x1 .f32) (v4 : Vec Ideal S10240x7168 .fp8e4m3)
  (v5 : Vec Ideal S1x10240 .f32) (v12 : Vec Ideal S16384x7168 .fp8e4m3) (v14 : Vec Ideal S16384x1 .f32)
  (v16 : Vec Ideal S10240x7168 .fp8e4m3) (v17 : Vec Ideal S1x10240 .f32)

/-- The gated products, in groups. -/
theorem pay4_at (r : Fin 16384) (g : Fin 80) (l : Fin 128) :
    k0_pay4 (F := Ideal) v0 v2 v4 v5 v0 v2 v16 v17 (ix3 r g l)
      = Spec.gated (fun k => v0 (ix2 r k)) (v2 (ix2 r 0)) (fun k => v4 (ix2 ⟨g.val * 128 + l.val, by omega⟩ k))
        (v5 (ix2 0 ⟨g.val * 128 + l.val, by omega⟩)) (fun k => v16 (ix2 ⟨g.val * 128 + l.val, by omega⟩ k))
        (v17 (ix2 0 ⟨g.val * 128 + l.val, by omega⟩)) := by
  pointwise [k0_pay4]
  rfl

/-- The largest magnitude of each group. -/
theorem pay5_at (r : Fin 16384) (g : Fin 80) :
    k0_pay5 (F := Ideal) v0 v2 v4 v5 v12 v14 v16 v17 (ix2 r g)
      = Spec.largest fun l => k0_pay4 (F := Ideal) v0 v2 v4 v5 v12 v14 v16 v17 (ix3 r g l) := by
  unfold k0_pay5
  generalize k0_pay4 (F := Ideal) v0 v2 v4 v5 v12 v14 v16 v17 = h
  pointwise
  rfl

/-- The exponent of each group, from any array `a` of largest magnitudes. -/
theorem expo_of (a : FVec Ideal S16384x80 .f32) (r : Fin 16384) (g : Fin 80) :
    k0_pay1 (F := Ideal) a
        (divf (log (mulf a (broadcast S16384x80 (Scalar.ofBits .f32 0x3B124925#32))))
          (log (broadcast S16384x80 (Scalar.ofBits .f32 0x40000000#32))))
        (cmpf .olt (mulf a (broadcast S16384x80 (Scalar.ofBits .f32 0x3B124925#32)))
          (broadcast S16384x80 (Scalar.ofBits .f32 0x00800000#32))) (ix2 r g)
      = Scale.expR (a (ix2 r g)) := by
  pointwise [k0_pay1]
  rfl

/-- The printed multiple, logarithm and comparison of the largest magnitudes. -/
theorem pay6_eq : k0_pay6 (F := Ideal) v0 v2 v4 v5 v12 v14 v16 v17
    = mulf (k0_pay5 (F := Ideal) v0 v2 v4 v5 v12 v14 v16 v17) (broadcast S16384x80 (Scalar.ofBits .f32 0x3B124925#32)) := rfl
theorem pay7_eq : k0_pay7 (F := Ideal) v0 v2 v4 v5 v12 v14 v16 v17
    = divf (log (k0_pay6 (F := Ideal) v0 v2 v4 v5 v12 v14 v16 v17)) (log (broadcast S16384x80 (Scalar.ofBits .f32 0x40000000#32))) := rfl
theorem pay8_eq : k0_pay8 (F := Ideal) v0 v2 v4 v5 v12 v14 v16 v17
    = cmpf .olt (k0_pay6 (F := Ideal) v0 v2 v4 v5 v12 v14 v16 v17) (broadcast S16384x80 (Scalar.ofBits .f32 0x00800000#32)) := rfl

/-- The exponent of each group, from its largest magnitude. -/
theorem expo_at (r : Fin 16384) (g : Fin 80) :
    k0_pay1 (F := Ideal) (k0_pay5 v0 v2 v4 v5 v12 v14 v16 v17) (k0_pay7 v0 v2 v4 v5 v12 v14 v16 v17) (k0_pay8 v0 v2 v4 v5 v12 v14 v16 v17) (ix2 r g)
      = Scale.expR (k0_pay5 (F := Ideal) v0 v2 v4 v5 v12 v14 v16 v17 (ix2 r g)) := by
  rw [pay7_eq, pay8_eq, pay6_eq]
  exact expo_of _ r g

end

/-- The scale of each group, from its exponent. -/
theorem pay2_at (v29 v35 : FVec Ideal S16384x80 .f32) (v37 : IVec S16384x80 1) (r : Fin 16384) (g : Fin 80) :
    k0_pay2 v29 v35 v37 (ix2 r g) = Ideal.exp2 (k0_pay1 v29 v35 v37 (ix2 r g)) := by
  unfold k0_pay2
  generalize k0_pay1 v29 v35 v37 = e
  pointwise
  rfl

/-- The code of each element, from its product and its group's exponent. -/
theorem pay3_at (v27 : FVec Ideal S16384x80x128 .f32) (v29 v35 : FVec Ideal S16384x80 .f32) (v37 : IVec S16384x80 1)
    (r : Fin 16384) (f : Fin 10240) :
    k0_pay3 v27 v29 v35 v37 (ix2 r f)
      = min (Ideal.ofBits .f32 0x43E00000#32) (max (Ideal.ofBits .f32 0xC3E00000#32)
        (v27 (ix3 r ⟨f.val / 128, by omega⟩ ⟨f.val % 128, Nat.mod_lt _ (by omega)⟩)
          * Ideal.exp2 (0 - k0_pay1 v29 v35 v37 (ix2 r ⟨f.val / 128, by omega⟩)))) := by
  unfold k0_pay3
  generalize k0_pay1 v29 v35 v37 = e
  pointwise
  rfl

variable (m : (ℓ : Loc nD τ sig) → Buf (Elt Ideal) ℓ) (ρ : Dev nD → PrngReg) (c : Dev nD)

/-- The arguments of device `c` as functions of their coordinates. -/
def aX (i : Fin 8) (j : Fin 2048) (k : Fin 7168) : EReal := m ((c : Thread nD τ).loc main_arg0) (ix3 i j k)
def aXs (i : Fin 8) (j : Fin 2048) : EReal := m ((c : Thread nD τ).loc main_arg1) (ix2 i j)
def aWg (f : Fin 10240) (k : Fin 7168) : EReal := m ((c : Thread nD τ).loc main_arg2) (ix2 f k)
def aSg (f : Fin 10240) : EReal := m ((c : Thread nD τ).loc main_arg3) (ix1 f)
def aWu (f : Fin 10240) (k : Fin 7168) : EReal := m ((c : Thread nD τ).loc main_arg4) (ix2 f k)
def aSu (f : Fin 10240) : EReal := m ((c : Thread nD τ).loc main_arg5) (ix1 f)

/-- Every block is the whole array. -/
theorem idxIn : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0])

/-- The rows, read at an element. -/
theorem read0 (t : Fin cfg0.N) (R : Fin 16384) (k : Fin 7168) : iblk m c 0 t (ix2 R k)
    = m ((c : Thread nD τ).loc main_arg0) (ix3 ⟨R.val / 2048, by omega⟩ ⟨R.val % 2048, Nat.mod_lt _ (by omega)⟩ k) := by
  blk_ext! [iblk, V, idxIn t]

/-- The row scales, read at an element. -/
theorem read1 (t : Fin cfg0.N) (R : Fin 16384) : iblk m c 1 t (ix2 R 0)
    = m ((c : Thread nD τ).loc main_arg1) (ix2 ⟨R.val / 2048, by omega⟩ ⟨R.val % 2048, Nat.mod_lt _ (by omega)⟩) := by
  blk_ext! [iblk, V, idxIn t]

/-- The gate columns, read at an element. -/
theorem read2 (t : Fin cfg0.N) (f : Fin 10240) (k : Fin 7168) :
    iblk m c 2 t (ix2 f k) = m ((c : Thread nD τ).loc main_arg2) (ix2 f k) := by
  blk_ext! [iblk, V, idxIn t]

/-- The gate scales, read at an element. -/
theorem read3 (t : Fin cfg0.N) (f : Fin 10240) : iblk m c 3 t (ix2 0 f) = m ((c : Thread nD τ).loc main_arg3) (ix1 f) := by
  blk_ext! [iblk, V, idxIn t]

/-- The up columns, read at an element. -/
theorem read4 (t : Fin cfg0.N) (f : Fin 10240) (k : Fin 7168) :
    iblk m c 4 t (ix2 f k) = m ((c : Thread nD τ).loc main_arg4) (ix2 f k) := by
  blk_ext! [iblk, V, idxIn t]

/-- The up scales, read at an element. -/
theorem read5 (t : Fin cfg0.N) (f : Fin 10240) : iblk m c 5 t (ix2 0 f) = m ((c : Thread nD τ).loc main_arg5) (ix1 f) := by
  blk_ext! [iblk, V, idxIn t]

/-- The gated products of the reference, from the arguments. -/
theorem product_at (t : Fin cfg0.N) (r : Fin 16384) (g : Fin 80) (l : Fin 128) :
    k0_pay4 (F := Ideal) (iblk m c 0 t) (iblk m c 1 t) (iblk m c 2 t) (iblk m c 3 t) (iblk m c 0 t) (iblk m c 1 t)
        (iblk m c 4 t) (iblk m c 5 t) (ix3 r g l)
      = Spec.product (aX m c) (aXs m c) (aWg m c) (aSg m c) (aWu m c) (aSu m c) r ⟨g.val * 128 + l.val, by omega⟩ := by
  refine (pay4_at _ _ _ _ _ _ r g l).trans ?_
  unfold Spec.product
  congr 1
  · exact funext fun k => read0 m c t r k
  · exact read1 m c t r
  · exact funext fun k => read2 m c t _ k
  · exact read3 m c t _
  · exact funext fun k => read4 m c t _ k
  · exact read5 m c t _

/-- The largest magnitudes of the reference, from the arguments. -/
theorem groupMax_at (t : Fin cfg0.N) (r : Fin 16384) (g : Fin 80) :
    k0_pay5 (F := Ideal) (iblk m c 0 t) (iblk m c 1 t) (iblk m c 2 t) (iblk m c 3 t) (iblk m c 0 t) (iblk m c 1 t)
        (iblk m c 4 t) (iblk m c 5 t) (ix2 r g)
      = Spec.groupMax (aX m c) (aXs m c) (aWg m c) (aSg m c) (aWu m c) (aSu m c) r g :=
  (pay5_at _ _ _ _ _ _ _ _ r g).trans (congrArg Spec.largest (funext fun l => product_at m c t r g l))

/-- The reference's array of codes. -/
def codes : Vec Ideal S16384x10240 .fp8e4m3 := fun i =>
  Spec.codeAt (aX m c) (aXs m c) (aWg m c) (aSg m c) (aWu m c) (aSu m c) (i 0) (i 1)

/-- The reference's array of scales. -/
def scales : Vec Ideal S16384x80 .f32 := fun i =>
  Spec.scaleAt (aX m c) (aXs m c) (aWg m c) (aSg m c) (aWu m c) (aSu m c) (i 0) (i 1)

/-- A load of a whole array is the array. -/
theorem ld0 (x : Vec Ideal S16384x7168 .fp8e4m3) : View.ld x r0_0 = x :=
  View.ld_unit_zero (by funext a; fin_cases a <;> rfl) _ _
theorem ld1 (x : Vec Ideal S16384x1 .f32) : View.ld x r0_1 = x := View.ld_unit_zero (by funext a; fin_cases a <;> rfl) _ _
theorem ld2 (x : Vec Ideal S10240x7168 .fp8e4m3) : View.ld x r0_2 = x :=
  View.ld_unit_zero (by funext a; fin_cases a <;> rfl) _ _
theorem ld3 (x : Vec Ideal S1x10240 .f32) : View.ld x r0_3 = x := View.ld_unit_zero (by funext a; fin_cases a <;> rfl) _ _

/-- The value stated apart as `k0_pay9` is the one of the whole arrays. -/
theorem pay9_eq (x0 : Vec Ideal S16384x7168 .fp8e4m3) (x1 : Vec Ideal S16384x1 .f32) (x2 : Vec Ideal S10240x7168 .fp8e4m3)
    (x3 : Vec Ideal S1x10240 .f32) (x4 : Vec Ideal S10240x7168 .fp8e4m3) (x5 : Vec Ideal S1x10240 .f32) :
    k0_pay9 x0 x1 x2 x3 x4 x5 = k0_pay5 (F := Ideal) x0 x1 x2 x3 x0 x1 x4 x5 := by
  unfold k0_pay9
  rw [ld0, ld1, ld2, ld3, ld2, ld3]

/-- The value stated apart as `k0_pay10` is the one of the whole arrays. -/
theorem pay10_eq (x0 : Vec Ideal S16384x7168 .fp8e4m3) (x1 : Vec Ideal S16384x1 .f32) (x2 : Vec Ideal S10240x7168 .fp8e4m3)
    (x3 : Vec Ideal S1x10240 .f32) (x4 : Vec Ideal S10240x7168 .fp8e4m3) (x5 : Vec Ideal S1x10240 .f32) :
    k0_pay10 x0 x1 x2 x3 x4 x5 = k0_pay7 (F := Ideal) x0 x1 x2 x3 x0 x1 x4 x5 := by
  unfold k0_pay10
  rw [ld0, ld1, ld2, ld3, ld2, ld3]

/-- The value stated apart as `k0_pay11` is the one of the whole arrays. -/
theorem pay11_eq (x0 : Vec Ideal S16384x7168 .fp8e4m3) (x1 : Vec Ideal S16384x1 .f32) (x2 : Vec Ideal S10240x7168 .fp8e4m3)
    (x3 : Vec Ideal S1x10240 .f32) (x4 : Vec Ideal S10240x7168 .fp8e4m3) (x5 : Vec Ideal S1x10240 .f32) :
    k0_pay11 x0 x1 x2 x3 x4 x5 = k0_pay8 (F := Ideal) x0 x1 x2 x3 x0 x1 x4 x5 := by
  unfold k0_pay11
  rw [ld0, ld1, ld2, ld3, ld2, ld3]

/-- What the body stores as codes. -/
theorem codes_at (t : Fin cfg0.N) (r : Fin 16384) (f : Fin 10240) :
    out0_6 (F := Ideal) (iblk m c 0 t) (iblk m c 1 t) (iblk m c 2 t) (iblk m c 3 t) (iblk m c 4 t) (iblk m c 5 t) (ix2 r f)
      = codes m c (ix2 r f) := by
  frame_out
  rw [pay9_eq, pay10_eq, pay11_eq, pay3_at, product_at, expo_at, groupMax_at]
  unfold codes Spec.codeAt Scale.code
  congr 3
  refine congrArg _ (Fin.ext ?_)
  show f.val / 128 * 128 + f.val % 128 = f.val
  omega

/-- What the body stores as scales. -/
theorem scales_at (t : Fin cfg0.N) (r : Fin 16384) (g : Fin 80) :
    out0_7 (F := Ideal) (iblk m c 0 t) (iblk m c 1 t) (iblk m c 2 t) (iblk m c 3 t) (iblk m c 4 t) (iblk m c 5 t) (ix2 r g)
      = scales m c (ix2 r g) := by
  frame_out
  rw [pay9_eq, pay10_eq, pay11_eq, pay2_at, expo_at, groupMax_at]
  rfl

/-- The first output array after the run. -/
theorem arr6 : (dats m 0 c).arrAt 6 cfg0.N = codes m c := by
  refine Dat.arrAt_eq_of_covers _ 6 _ (by decide +kernel) fun t hf y => ?_
  have e : ∀ z : S16384x10240.Idx, z = ix2 (z 0) (z 1) := fun z => by funext a; fin_cases a <;> rfl
  blk_simp
  rw [after0_6]
  refine (congrArg _ (e y)).trans ((codes_at m c t (y 0) (y 1)).trans (congrArg (codes m c) ?_))
  blk_ext! [idxIn t]

/-- The second output array after the run. -/
theorem arr7 : (dats m 0 c).arrAt 7 cfg0.N = scales m c := by
  refine Dat.arrAt_eq_of_covers _ 7 _ (by decide +kernel) fun t hf y => ?_
  have e : ∀ z : S16384x80.Idx, z = ix2 (z 0) (z 1) := fun z => by funext a; fin_cases a <;> rfl
  blk_simp
  rw [after0_7]
  refine (congrArg _ (e y)).trans ((scales_at m c t (y 0) (y 1)).trans (congrArg (scales m c) ?_))
  blk_ext! [idxIn t]

/-- The reference's run, with both result arrays named and the arguments unchanged. -/
theorem run_named : θ_run defs (onTc (τ := τ) (main (F := Ideal))) ⟨m, fun _ => 0, ρ⟩ fun r => ∀ c : Dev nD,
      (r.2.mem ((c : Thread nD τ).loc main_v4_0) = codes m c
      ∧ r.2.mem ((c : Thread nD τ).loc main_v4_1) = scales m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨⟨((h c).1 6).trans (arr6 m c), ((h c).1 7).trans (arr7 m c)⟩,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Cert.ReferenceIdeal.Ref

end
-- ==== Proof.lean ====
/- The proof of the claim: the frames of the three programs, and the equality of both result arrays of the kernel with
   the reference's at the extended reals. -/
module

public import proofs.«01_k».proof.Defs
public import proofs.«01_k».proof.Proof.SameProgram
public import proofs.«01_k».proof.Proof.Gen.KernelIdeal.Frame
public import proofs.«01_k».proof.Proof.Gen.KernelIdeal.Skeleton
public import proofs.«01_k».proof.Proof.Gen.ReferenceIdeal.Frame
public import proofs.«01_k».proof.Proof.KernelValue
public import proofs.«01_k».proof.Proof.RefValue

@[expose] public section

namespace Cert.Proof

open Idealize.ShloMosaic Idealize.SL.Sem Cert.Kernel

/-- From equal arguments, both programs leave the same two result arrays. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Block.codesArr m c, fun c => Cert.KernelIdeal.Block.scalesArr m c, ?_, ?_⟩
  · exact (θ_run _ _ _).mono (fun r h c => ⟨(h.1 c).1.1, (h.1 c).1.2, (h.1 c).2⟩) (Cert.KernelIdeal.Block.run_named m g)
  · refine (θ_run _ _ _).mono (fun r h c => ?_) (Cert.ReferenceIdeal.Ref.run_named m' g')
    obtain ⟨a0, a1, a2, a3, a4, a5⟩ := hargs c
    have e0 : Cert.ReferenceIdeal.Ref.aX m' c = Cert.KernelIdeal.Block.aX m c :=
      funext fun i => funext fun j => funext fun k => congrFun a0 _
    have e1 : Cert.ReferenceIdeal.Ref.aXs m' c = Cert.KernelIdeal.Block.aXs m c :=
      funext fun i => funext fun j => congrFun a1 _
    have e2 : Cert.ReferenceIdeal.Ref.aWg m' c = Cert.KernelIdeal.Block.aWg m c :=
      funext fun i => funext fun j => congrFun a2 _
    have e3 : Cert.ReferenceIdeal.Ref.aSg m' c = Cert.KernelIdeal.Block.aSg m c := funext fun i => congrFun a3 _
    have e4 : Cert.ReferenceIdeal.Ref.aWu m' c = Cert.KernelIdeal.Block.aWu m c :=
      funext fun i => funext fun j => congrFun a4 _
    have e5 : Cert.ReferenceIdeal.Ref.aSu m' c = Cert.KernelIdeal.Block.aSu m c := funext fun i => congrFun a5 _
    refine ⟨(h c).1.1.trans (funext fun i => ?_), (h c).1.2.trans (funext fun i => ?_), (h c).2⟩
    · have ei : i = ix2 (i 0) (i 1) := by funext a; fin_cases a <;> rfl
      unfold Cert.ReferenceIdeal.Ref.codes
      rw [e0, e1, e2, e3, e4, e5]
      exact (Cert.KernelIdeal.Block.codesArr_at m c (i 0) (i 1)).symm.trans (congrArg _ ei.symm)
    · have ei : i = ix2 (i 0) (i 1) := by funext a; fin_cases a <;> rfl
      unfold Cert.ReferenceIdeal.Ref.scales
      rw [e0, e1, e2, e3, e4, e5]
      exact (Cert.KernelIdeal.Block.scalesArr_at m c (i 0) (i 1)).symm.trans (congrArg _ ei.symm)

/-- The claim. -/
theorem claim : Cert.Claim :=
  ⟨Cert.Kernel.Gen.facts, Cert.KernelIdeal.Gen.facts, Cert.ReferenceIdeal.Gen.facts,
    fun m ρ _ => Cert.Kernel.frame m ρ,
    fun m ρ _ => Cert.KernelIdeal.Block.frame m ρ,
    fun m ρ _ => Cert.ReferenceIdeal.Gen.frame m ρ,
    trivial,
    algebraic⟩

end Cert.Proof
